-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![4096, 256]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S16x16x256 : Shape := ⟨3, ![16, 16, 256]⟩
abbrev S16x256 : Shape := ⟨2, ![16, 256]⟩
abbrev S16 : Shape := ⟨1, ![16]⟩
abbrev S_ : Shape := ⟨0, ![]⟩
abbrev S1 : Shape := ⟨1, ![1]⟩
abbrev S1x16x256 : Shape := ⟨3, ![1, 16, 256]⟩
abbrev S15x16x256 : Shape := ⟨3, ![15, 16, 256]⟩

abbrev nBuf : Space → Nat
  | .hbm => 2
  | .vmem => 5
  | .smem => 0
  | _ => 0

abbrev bufTy : (tb : Table) → Fin (tcTables nBuf tb) → BufTy
  | .hbm, ⟨0, _⟩ => ⟨S256x256, .bf16⟩
  | .hbm, ⟨1, _⟩ => ⟨S256x256, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S16x16x256, .bf16⟩
  | .local _ .vmem, ⟨4, _⟩ => ⟨S16x256, .bf16⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_64 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v69 : BitVec 32 := Scalar.addi v2 c1_i32_64
  let c16_i32_65 : BitVec 32 := 16#32
  let v70 : BitVec 32 := Scalar.remsi v69 c16_i32_65
  let c16_i32_66 : BitVec 32 := 16#32
  let v71 : BitVec 32 := Scalar.muli v70 c16_i32_66
  let c0_i32_74 : BitVec 32 := 0#32
  ![v71.toNat, 0]
def k0_dev16 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_64 : BitVec 32 := 1#32
  let v69 : BitVec 32 := Scalar.addi v2 c1_i32_64
  let c16_i32_65 : BitVec 32 := 16#32
  let v70 : BitVec 32 := Scalar.remsi v69 c16_i32_65
  let c1_i32_70 : BitVec 32 := 1#32
  let v72 : BitVec 32 := Scalar.muli v70 c1_i32_70
  let v73 : BitVec 32 := Scalar.addi c0_i32_71 v72
  v73.toNat
def k0_dev17 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_75 : BitVec 32 := 2#32
  let v81 : BitVec 32 := Scalar.addi v2 c2_i32_75
  let c16_i32_76 : BitVec 32 := 16#32
  let v82 : BitVec 32 := Scalar.remsi v81 c16_i32_76
  let c1_i32_81 : BitVec 32 := 1#32
  let v84 : BitVec 32 := Scalar.muli v82 c1_i32_81
  let v85 : BitVec 32 := Scalar.addi c0_i32_82 v84
  v85.toNat
def k0_dev18 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_86 : BitVec 32 := 3#32
  let v93 : BitVec 32 := Scalar.addi v2 c3_i32_86
  let c16_i32_87 : BitVec 32 := 16#32
  let v94 : BitVec 32 := Scalar.remsi v93 c16_i32_87
  let c1_i32_92 : BitVec 32 := 1#32
  let v96 : BitVec 32 := Scalar.muli v94 c1_i32_92
  let v97 : BitVec 32 := Scalar.addi c0_i32_93 v96
  v97.toNat
def k0_dev19 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_97 : BitVec 32 := 4#32
  let v105 : BitVec 32 := Scalar.addi v2 c4_i32_97
  let c16_i32_98 : BitVec 32 := 16#32
  let v106 : BitVec 32 := Scalar.remsi v105 c16_i32_98
  let c1_i32_103 : BitVec 32 := 1#32
  let v108 : BitVec 32 := Scalar.muli v106 c1_i32_103
  let v109 : BitVec 32 := Scalar.addi c0_i32_104 v108
  v109.toNat
def k0_dev20 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_108 : BitVec 32 := 5#32
  let v117 : BitVec 32 := Scalar.addi v2 c5_i32_108
  let c16_i32_109 : BitVec 32 := 16#32
  let v118 : BitVec 32 := Scalar.remsi v117 c16_i32_109
  let c1_i32_114 : BitVec 32 := 1#32
  let v120 : BitVec 32 := Scalar.muli v118 c1_i32_114
  let v121 : BitVec 32 := Scalar.addi c0_i32_115 v120
  v121.toNat
def k0_dev21 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_119 : BitVec 32 := 6#32
  let v129 : BitVec 32 := Scalar.addi v2 c6_i32_119
  let c16_i32_120 : BitVec 32 := 16#32
  let v130 : BitVec 32 := Scalar.remsi v129 c16_i32_120
  let c1_i32_125 : BitVec 32 := 1#32
  let v132 : BitVec 32 := Scalar.muli v130 c1_i32_125
  let v133 : BitVec 32 := Scalar.addi c0_i32_126 v132
  v133.toNat
def k0_dev22 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_130 : BitVec 32 := 7#32
  let v141 : BitVec 32 := Scalar.addi v2 c7_i32_130
  let c16_i32_131 : BitVec 32 := 16#32
  let v142 : BitVec 32 := Scalar.remsi v141 c16_i32_131
  let c1_i32_136 : BitVec 32 := 1#32
  let v144 : BitVec 32 := Scalar.muli v142 c1_i32_136
  let v145 : BitVec 32 := Scalar.addi c0_i32_137 v144
  v145.toNat
def k0_dev23 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_141 : BitVec 32 := 8#32
  let v153 : BitVec 32 := Scalar.addi v2 c8_i32_141
  let c16_i32_142 : BitVec 32 := 16#32
  let v154 : BitVec 32 := Scalar.remsi v153 c16_i32_142
  let c1_i32_147 : BitVec 32 := 1#32
  let v156 : BitVec 32 := Scalar.muli v154 c1_i32_147
  let v157 : BitVec 32 := Scalar.addi c0_i32_148 v156
  v157.toNat
def k0_dev24 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_152 : BitVec 32 := 9#32
  let v165 : BitVec 32 := Scalar.addi v2 c9_i32_152
  let c16_i32_153 : BitVec 32 := 16#32
  let v166 : BitVec 32 := Scalar.remsi v165 c16_i32_153
  let c1_i32_158 : BitVec 32 := 1#32
  let v168 : BitVec 32 := Scalar.muli v166 c1_i32_158
  let v169 : BitVec 32 := Scalar.addi c0_i32_159 v168
  v169.toNat
def k0_dev25 (d0 : Dev nD) : Nat :=
  let c0_i32_170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_163 : BitVec 32 := 10#32
  let v177 : BitVec 32 := Scalar.addi v2 c10_i32_163
  let c16_i32_164 : BitVec 32 := 16#32
  let v178 : BitVec 32 := Scalar.remsi v177 c16_i32_164
  let c1_i32_169 : BitVec 32 := 1#32
  let v180 : BitVec 32 := Scalar.muli v178 c1_i32_169
  let v181 : BitVec 32 := Scalar.addi c0_i32_170 v180
  v181.toNat
def k0_dev26 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_174 : BitVec 32 := 11#32
  let v189 : BitVec 32 := Scalar.addi v2 c11_i32_174
  let c16_i32_175 : BitVec 32 := 16#32
  let v190 : BitVec 32 := Scalar.remsi v189 c16_i32_175
  let c1_i32_180 : BitVec 32 := 1#32
  let v192 : BitVec 32 := Scalar.muli v190 c1_i32_180
  let v193 : BitVec 32 := Scalar.addi c0_i32_181 v192
  v193.toNat
def k0_dev27 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_185 : BitVec 32 := 12#32
  let v201 : BitVec 32 := Scalar.addi v2 c12_i32_185
  let c16_i32_186 : BitVec 32 := 16#32
  let v202 : BitVec 32 := Scalar.remsi v201 c16_i32_186
  let c1_i32_191 : BitVec 32 := 1#32
  let v204 : BitVec 32 := Scalar.muli v202 c1_i32_191
  let v205 : BitVec 32 := Scalar.addi c0_i32_192 v204
  v205.toNat
def k0_dev28 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_196 : BitVec 32 := 13#32
  let v213 : BitVec 32 := Scalar.addi v2 c13_i32_196
  let c16_i32_197 : BitVec 32 := 16#32
  let v214 : BitVec 32 := Scalar.remsi v213 c16_i32_197
  let c1_i32_202 : BitVec 32 := 1#32
  let v216 : BitVec 32 := Scalar.muli v214 c1_i32_202
  let v217 : BitVec 32 := Scalar.addi c0_i32_203 v216
  v217.toNat
def k0_dev29 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_207 : BitVec 32 := 14#32
  let v225 : BitVec 32 := Scalar.addi v2 c14_i32_207
  let c16_i32_208 : BitVec 32 := 16#32
  let v226 : BitVec 32 := Scalar.remsi v225 c16_i32_208
  let c1_i32_213 : BitVec 32 := 1#32
  let v228 : BitVec 32 := Scalar.muli v226 c1_i32_213
  let v229 : BitVec 32 := Scalar.addi c0_i32_214 v228
  v229.toNat
def k0_dev30 (d0 : Dev nD) : Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_218 : BitVec 32 := 15#32
  let v237 : BitVec 32 := Scalar.addi v2 c15_i32_218
  let c16_i32_219 : BitVec 32 := 16#32
  let v238 : BitVec 32 := Scalar.remsi v237 c16_i32_219
  let c1_i32_224 : BitVec 32 := 1#32
  let v240 : BitVec 32 := Scalar.muli v238 c1_i32_224
  let v241 : BitVec 32 := Scalar.addi c0_i32_225 v240
  v241.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_349 : BitVec 32 := 16#32
  let v354 : BitVec 32 := Scalar.muli v2 c16_i32_349
  let v355 : Index := Scalar.indexCast v354
  let c0_350 : Index := 0#32
  ![v355.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_357 : BitVec 32 := 16#32
  let v369 : BitVec 32 := Scalar.muli v2 c16_i32_357
  let c0_i32_362 : BitVec 32 := 0#32
  ![v369.toNat, 0]
def k0_dev31 (d0 : Dev nD) : Nat :=
  let c0_i32_361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_355 : BitVec 32 := 1#32
  let v367 : BitVec 32 := Scalar.addi v2 c1_i32_355
  let c16_i32_356 : BitVec 32 := 16#32
  let v368 : BitVec 32 := Scalar.remsi v367 c16_i32_356
  let c1_i32_360 : BitVec 32 := 1#32
  let v370 : BitVec 32 := Scalar.muli v368 c1_i32_360
  let v371 : BitVec 32 := Scalar.addi c0_i32_361 v370
  v371.toNat
def k0_dev32 (d0 : Dev nD) : Nat :=
  let c0_i32_369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_363 : BitVec 32 := 2#32
  let v377 : BitVec 32 := Scalar.addi v2 c2_i32_363
  let c16_i32_364 : BitVec 32 := 16#32
  let v378 : BitVec 32 := Scalar.remsi v377 c16_i32_364
  let c1_i32_368 : BitVec 32 := 1#32
  let v380 : BitVec 32 := Scalar.muli v378 c1_i32_368
  let v381 : BitVec 32 := Scalar.addi c0_i32_369 v380
  v381.toNat
def k0_dev33 (d0 : Dev nD) : Nat :=
  let c0_i32_377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_371 : BitVec 32 := 3#32
  let v387 : BitVec 32 := Scalar.addi v2 c3_i32_371
  let c16_i32_372 : BitVec 32 := 16#32
  let v388 : BitVec 32 := Scalar.remsi v387 c16_i32_372
  let c1_i32_376 : BitVec 32 := 1#32
  let v390 : BitVec 32 := Scalar.muli v388 c1_i32_376
  let v391 : BitVec 32 := Scalar.addi c0_i32_377 v390
  v391.toNat
def k0_dev34 (d0 : Dev nD) : Nat :=
  let c0_i32_385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_379 : BitVec 32 := 4#32
  let v397 : BitVec 32 := Scalar.addi v2 c4_i32_379
  let c16_i32_380 : BitVec 32 := 16#32
  let v398 : BitVec 32 := Scalar.remsi v397 c16_i32_380
  let c1_i32_384 : BitVec 32 := 1#32
  let v400 : BitVec 32 := Scalar.muli v398 c1_i32_384
  let v401 : BitVec 32 := Scalar.addi c0_i32_385 v400
  v401.toNat
def k0_dev35 (d0 : Dev nD) : Nat :=
  let c0_i32_393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_387 : BitVec 32 := 5#32
  let v407 : BitVec 32 := Scalar.addi v2 c5_i32_387
  let c16_i32_388 : BitVec 32 := 16#32
  let v408 : BitVec 32 := Scalar.remsi v407 c16_i32_388
  let c1_i32_392 : BitVec 32 := 1#32
  let v410 : BitVec 32 := Scalar.muli v408 c1_i32_392
  let v411 : BitVec 32 := Scalar.addi c0_i32_393 v410
  v411.toNat
def k0_dev36 (d0 : Dev nD) : Nat :=
  let c0_i32_401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_395 : BitVec 32 := 6#32
  let v417 : BitVec 32 := Scalar.addi v2 c6_i32_395
  let c16_i32_396 : BitVec 32 := 16#32
  let v418 : BitVec 32 := Scalar.remsi v417 c16_i32_396
  let c1_i32_400 : BitVec 32 := 1#32
  let v420 : BitVec 32 := Scalar.muli v418 c1_i32_400
  let v421 : BitVec 32 := Scalar.addi c0_i32_401 v420
  v421.toNat
def k0_dev37 (d0 : Dev nD) : Nat :=
  let c0_i32_409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_403 : BitVec 32 := 7#32
  let v427 : BitVec 32 := Scalar.addi v2 c7_i32_403
  let c16_i32_404 : BitVec 32 := 16#32
  let v428 : BitVec 32 := Scalar.remsi v427 c16_i32_404
  let c1_i32_408 : BitVec 32 := 1#32
  let v430 : BitVec 32 := Scalar.muli v428 c1_i32_408
  let v431 : BitVec 32 := Scalar.addi c0_i32_409 v430
  v431.toNat
def k0_dev38 (d0 : Dev nD) : Nat :=
  let c0_i32_417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_411 : BitVec 32 := 8#32
  let v437 : BitVec 32 := Scalar.addi v2 c8_i32_411
  let c16_i32_412 : BitVec 32 := 16#32
  let v438 : BitVec 32 := Scalar.remsi v437 c16_i32_412
  let c1_i32_416 : BitVec 32 := 1#32
  let v440 : BitVec 32 := Scalar.muli v438 c1_i32_416
  let v441 : BitVec 32 := Scalar.addi c0_i32_417 v440
  v441.toNat
def k0_dev39 (d0 : Dev nD) : Nat :=
  let c0_i32_425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_419 : BitVec 32 := 9#32
  let v447 : BitVec 32 := Scalar.addi v2 c9_i32_419
  let c16_i32_420 : BitVec 32 := 16#32
  let v448 : BitVec 32 := Scalar.remsi v447 c16_i32_420
  let c1_i32_424 : BitVec 32 := 1#32
  let v450 : BitVec 32 := Scalar.muli v448 c1_i32_424
  let v451 : BitVec 32 := Scalar.addi c0_i32_425 v450
  v451.toNat
def k0_dev40 (d0 : Dev nD) : Nat :=
  let c0_i32_433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_427 : BitVec 32 := 10#32
  let v457 : BitVec 32 := Scalar.addi v2 c10_i32_427
  let c16_i32_428 : BitVec 32 := 16#32
  let v458 : BitVec 32 := Scalar.remsi v457 c16_i32_428
  let c1_i32_432 : BitVec 32 := 1#32
  let v460 : BitVec 32 := Scalar.muli v458 c1_i32_432
  let v461 : BitVec 32 := Scalar.addi c0_i32_433 v460
  v461.toNat
def k0_dev41 (d0 : Dev nD) : Nat :=
  let c0_i32_441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_435 : BitVec 32 := 11#32
  let v467 : BitVec 32 := Scalar.addi v2 c11_i32_435
  let c16_i32_436 : BitVec 32 := 16#32
  let v468 : BitVec 32 := Scalar.remsi v467 c16_i32_436
  let c1_i32_440 : BitVec 32 := 1#32
  let v470 : BitVec 32 := Scalar.muli v468 c1_i32_440
  let v471 : BitVec 32 := Scalar.addi c0_i32_441 v470
  v471.toNat
def k0_dev42 (d0 : Dev nD) : Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_443 : BitVec 32 := 12#32
  let v477 : BitVec 32 := Scalar.addi v2 c12_i32_443
  let c16_i32_444 : BitVec 32 := 16#32
  let v478 : BitVec 32 := Scalar.remsi v477 c16_i32_444
  let c1_i32_448 : BitVec 32 := 1#32
  let v480 : BitVec 32 := Scalar.muli v478 c1_i32_448
  let v481 : BitVec 32 := Scalar.addi c0_i32_449 v480
  v481.toNat
def k0_dev43 (d0 : Dev nD) : Nat :=
  let c0_i32_457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_451 : BitVec 32 := 13#32
  let v487 : BitVec 32 := Scalar.addi v2 c13_i32_451
  let c16_i32_452 : BitVec 32 := 16#32
  let v488 : BitVec 32 := Scalar.remsi v487 c16_i32_452
  let c1_i32_456 : BitVec 32 := 1#32
  let v490 : BitVec 32 := Scalar.muli v488 c1_i32_456
  let v491 : BitVec 32 := Scalar.addi c0_i32_457 v490
  v491.toNat
def k0_dev44 (d0 : Dev nD) : Nat :=
  let c0_i32_465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_459 : BitVec 32 := 14#32
  let v497 : BitVec 32 := Scalar.addi v2 c14_i32_459
  let c16_i32_460 : BitVec 32 := 16#32
  let v498 : BitVec 32 := Scalar.remsi v497 c16_i32_460
  let c1_i32_464 : BitVec 32 := 1#32
  let v500 : BitVec 32 := Scalar.muli v498 c1_i32_464
  let v501 : BitVec 32 := Scalar.addi c0_i32_465 v500
  v501.toNat
def k0_dev45 (d0 : Dev nD) : Nat :=
  let c0_i32_473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_467 : BitVec 32 := 15#32
  let v507 : BitVec 32 := Scalar.addi v2 c15_i32_467
  let c16_i32_468 : BitVec 32 := 16#32
  let v508 : BitVec 32 := Scalar.remsi v507 c16_i32_468
  let c1_i32_472 : BitVec 32 := 1#32
  let v510 : BitVec 32 := Scalar.muli v508 c1_i32_472
  let v511 : BitVec 32 := Scalar.addi c0_i32_473 v510
  v511.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x256 : Shape := ⟨2, ![4096, 256]⟩
abbrev S16x256x256 : Shape := ⟨3, ![16, 256, 256]⟩
abbrev S_ : Shape := ⟨0, ![]⟩
abbrev S256x256 : Shape := ⟨2, ![256, 256]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S16x256x256, .bf16⟩
  | .hbm, ⟨2, _⟩ => ⟨S16x256x256, .f32⟩
  | .hbm, ⟨3, _⟩ => ⟨S_, .f32⟩
  | .hbm, ⟨4, _⟩ => ⟨S256x256, .f32⟩
  | .hbm, ⟨5, _⟩ => ⟨S256x256, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Loop.lean ====
/-
# 01_k — `Loop`: the kernel body as seven short loops

The printed body runs each of its seven communication phases written out fifteen times, once per distance
`r + 1` around the ring (`r : Fin 15`). Here the same sequence of operations is written as loops over the list of
distances, with the operation of one distance a definition in `r`; `body_eq` says the printed body is that
program, by unfolding both.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KProof

open Cert.KernelIdeal Cert.KernelIdeal.Gen
open Idealize.ShloMosaic Idealize.SL.Sem
open Idealize.ShloMosaic.TcCoe

variable {F : FTy → Type} [FloatOps F]

/-! ## The buffers, and the parts of them a distance names -/

/-- The staged argument, the staged result, and the three scratch buffers: the copy of the argument, the landing
    places of the first exchange, the block this device sums. -/
abbrev xM : Memref sig .tc .vmem S256x256 .bf16 := Memref.whole cc0_stg0_0
abbrev oM : Memref sig .tc .vmem S256x256 .bf16 := Memref.whole cc0_stg1_0
abbrev lM : Memref sig .tc .vmem S256x256 .bf16 := Memref.whole cc0_scratch0
abbrev rM : Memref sig .tc .vmem S16x16x256 .bf16 := Memref.whole cc0_scratch1
abbrev kM : Memref sig .tc .vmem S16x256 .bf16 := Memref.whole cc0_scratch2

theorem slot_inb : ∀ b : Fin 16, ∀ a, (![b.val, 0, 0] : Fin 3 → Nat) a + S1x16x256.size a ≤ S16x16x256.size a := by
  decide +kernel
theorem slot_words : ∀ b : Fin 16, (Rect.unit (s := S16x16x256) ![b.val, 0, 0] S1x16x256.size (slot_inb b)).WholeWords
    (EltTy.packing .bf16) := by decide +kernel

/-- The distance's slot number. -/
abbrev up (r : Fin 15) : Fin 16 := ⟨1 + r.val, by omega⟩

/-- Slot `b` of the landing buffer. -/
abbrev slotM (b : Fin 16) : Memref sig .tc .vmem S16x256 .bf16 :=
  (rM.slice (Rect.unit (s := S16x16x256) ![b.val, 0, 0] S1x16x256.size (slot_inb b)) (fun _ => rfl)).squeeze
    S16x256 squeezes_S1x16x256_S16x256

/-- The rows of the copy that go to the device at distance `r + 1`. -/
abbrev rowM (c : Dev nD) (r : Fin 15) : Memref sig .tc .vmem S16x256 .bf16 :=
  lM.slice (Rect.unit (s := S256x256) (k0_off1 c (BitVec.ofNat 32 (1 + r.val))) S16x256.size (k0_off1_inb c r)) (fun _ => rfl)

/-- The rows of the result that the block of `c` fills. -/
abbrev outM (c : Dev nD) : Memref sig .tc .vmem S16x256 .bf16 :=
  oM.slice (Rect.unit (s := S256x256) (k0_off3 c) S16x256.size (k0_off3_inb c)) (fun _ => rfl)

/-! ## The semaphores -/

abbrev barS : Sem sig := (SemArray.scalar (sig.barrier 0 rfl) : Sems sig S_).sem
/-- Element `b` of the four arrays: sent and received, first and second exchange. -/
abbrev dS (j : Fin 4) (b : Fin 16) : DmaSem sig := ⟨2 + 16 * j.val + b.val, by have := j.isLt; have := b.isLt; show _ < 66; omega⟩

/-! ## The devices the printed body computes -/

/-- Signalled at distance `r + 1`; -/
def sigDev (c : Dev nD) (r : Fin 15) : Dev nD :=
  (![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩, ⟨k0_dev8 c, k0_dev8_lt c⟩,
    ⟨k0_dev9 c, k0_dev9_lt c⟩, ⟨k0_dev10 c, k0_dev10_lt c⟩, ⟨k0_dev11 c, k0_dev11_lt c⟩, ⟨k0_dev12 c, k0_dev12_lt c⟩,
    ⟨k0_dev13 c, k0_dev13_lt c⟩, ⟨k0_dev14 c, k0_dev14_lt c⟩, ⟨k0_dev15 c, k0_dev15_lt c⟩] : Fin 15 → Dev nD) r

/-- sent to in the first exchange; -/
def devA (c : Dev nD) (r : Fin 15) : Dev nD :=
  (![⟨k0_dev16 c, k0_dev16_lt c⟩, ⟨k0_dev17 c, k0_dev17_lt c⟩, ⟨k0_dev18 c, k0_dev18_lt c⟩, ⟨k0_dev19 c, k0_dev19_lt c⟩,
    ⟨k0_dev20 c, k0_dev20_lt c⟩, ⟨k0_dev21 c, k0_dev21_lt c⟩, ⟨k0_dev22 c, k0_dev22_lt c⟩, ⟨k0_dev23 c, k0_dev23_lt c⟩,
    ⟨k0_dev24 c, k0_dev24_lt c⟩, ⟨k0_dev25 c, k0_dev25_lt c⟩, ⟨k0_dev26 c, k0_dev26_lt c⟩, ⟨k0_dev27 c, k0_dev27_lt c⟩,
    ⟨k0_dev28 c, k0_dev28_lt c⟩, ⟨k0_dev29 c, k0_dev29_lt c⟩, ⟨k0_dev30 c, k0_dev30_lt c⟩] : Fin 15 → Dev nD) r

/-- sent to in the second. -/
def devB (c : Dev nD) (r : Fin 15) : Dev nD :=
  (![⟨k0_dev31 c, k0_dev31_lt c⟩, ⟨k0_dev32 c, k0_dev32_lt c⟩, ⟨k0_dev33 c, k0_dev33_lt c⟩, ⟨k0_dev34 c, k0_dev34_lt c⟩,
    ⟨k0_dev35 c, k0_dev35_lt c⟩, ⟨k0_dev36 c, k0_dev36_lt c⟩, ⟨k0_dev37 c, k0_dev37_lt c⟩, ⟨k0_dev38 c, k0_dev38_lt c⟩,
    ⟨k0_dev39 c, k0_dev39_lt c⟩, ⟨k0_dev40 c, k0_dev40_lt c⟩, ⟨k0_dev41 c, k0_dev41_lt c⟩, ⟨k0_dev42 c, k0_dev42_lt c⟩,
    ⟨k0_dev43 c, k0_dev43_lt c⟩, ⟨k0_dev44 c, k0_dev44_lt c⟩, ⟨k0_dev45 c, k0_dev45_lt c⟩] : Fin 15 → Dev nD) r

/-- The device at distance `r + 1` forwards. -/
def fwd (c : Dev nD) (r : Fin 15) : Dev nD := ⟨(c.val + (1 + r.val)) % 16, Nat.mod_lt _ (by decide)⟩

theorem sigDev_eq : ∀ (c : Dev nD) (r : Fin 15), sigDev c r = fwd c r := by decide +kernel
theorem devA_eq : ∀ (c : Dev nD) (r : Fin 15), devA c r = fwd c r := by decide +kernel
theorem devB_eq : ∀ (c : Dev nD) (r : Fin 15), devB c r = fwd c r := by decide +kernel

/-! ## The operation of one distance, phase by phase -/

abbrev P1 (F : FTy → Type) [FloatOps F] : Type := TpuEff nD τ sig (Elt F) Λ₀ .tc PUnit

/-- The signal to the device at distance `r + 1`. -/
def opSig (c : Dev nD) (r : Fin 15) : P1 F := .semSignal (sigDev c r, .tc) barS (1#32 : BitVec 32).toInt

/-- The first exchange's copy at that distance, to a device `n`; to the device the body computes. -/
def send1At (c n : Dev nD) (r : Fin 15) : P1 F :=
  .enqueueDma (rowM c r) (.remote (Dev.tc n) (slotM (up r)) (.dma (dS 0 (up r)))) (.dma (dS 1 (up r)))
    ((Memref.isWhole_whole cc0_scratch0).wordExact_slice rfl _ (k0_off1_wordsbf16 c r))
    (((Memref.isWhole_whole cc0_scratch1).wordExact_slice rfl _ (slot_words (up r))).reshape _ _) ⟨⟨rfl, Or.inl rfl⟩, trivial⟩
def opSend1 (c : Dev nD) (r : Fin 15) : P1 F := send1At c (devA c r) r

/-- The wait for the copy from distance `r + 1` backwards; -/
def opRecv1 (c : Dev nD) (r : Fin 15) : P1 F :=
  .waitDma2 (dS 1 (up r)) (rowM c r) (slotM (up r))
    ((Memref.isWhole_whole cc0_scratch0).wordExact_slice rfl _ (k0_off1_wordsbf16 c r))
    (((Memref.isWhole_whole cc0_scratch1).wordExact_slice rfl _ (slot_words (up r))).reshape _ _)

/-- the second exchange's copy; -/
def send2At (c n : Dev nD) (r : Fin 15) : P1 F :=
  .enqueueDma kM (.remote (Dev.tc n) (outM c) (.dma (dS 2 (up r)))) (.dma (dS 3 (up r)))
    (Memref.isWhole_whole cc0_scratch2).wordExact
    ((Memref.isWhole_whole cc0_stg1_0).wordExact_slice rfl _ (k0_off3_wordsbf16 c)) ⟨⟨rfl, Or.inl rfl⟩, trivial⟩
def opSend2 (c : Dev nD) (r : Fin 15) : P1 F := send2At c (devB c r) r

/-- the wait for the second exchange's; -/
def opRecv2 (c : Dev nD) (r : Fin 15) : P1 F :=
  .waitDma2 (dS 3 (up r)) kM (outM c) (Memref.isWhole_whole cc0_scratch2).wordExact
    ((Memref.isWhole_whole cc0_stg1_0).wordExact_slice rfl _ (k0_off3_wordsbf16 c))

/-- the waits for the copies sent. -/
def opSent1 (c : Dev nD) (r : Fin 15) : P1 F :=
  .waitDma2 (dS 0 (up r)) (slotM (up r)) (rowM c r)
    (((Memref.isWhole_whole cc0_scratch1).wordExact_slice rfl _ (slot_words (up r))).reshape _ _)
    ((Memref.isWhole_whole cc0_scratch0).wordExact_slice rfl _ (k0_off1_wordsbf16 c r))
def opSent2 (c : Dev nD) (r : Fin 15) : P1 F :=
  .waitDma2 (dS 2 (up r)) (outM c) kM
    ((Memref.isWhole_whole cc0_stg1_0).wordExact_slice rfl _ (k0_off3_wordsbf16 c))
    (Memref.isWhole_whole cc0_scratch2).wordExact

/-! ## The body -/

abbrev PG (F : FTy → Type) [FloatOps F] : Type 1 := Prog (TpuEff nD τ sig (Elt F) Λ₀ .tc) PUnit

/-- A phase: its operation at each distance of the list in order, then the rest. -/
def loop (f : Fin 15 → P1 F) : List (Fin 15) → PG F → PG F
  | [], p => p
  | r :: rs, p => .op (f r) fun _ => loop f rs p

/-- All distances, nearest first. -/
abbrev rs15 : List (Fin 15) := [0, 1, 2, 3, 4, 5, 6, 7, 8, 9, 10, 11, 12, 13, 14]

/-- After the second exchange's copies: this device's own block into the result, and the waits. -/
def tailP (c : Dev nD) : PG F :=
  .op (.load kM (Rect.unit (s := S16x256) ![0, 0] S16x256.size inb_S16x256_S16x256_0_0).toLoadRect (View.loadsAt_vmem h_S16x256)) fun v517 =>
  .op (.load oM (Rect.unit (s := S256x256) (k0_off2 c) S16x256.size (k0_off2_inb c)).toLoadRect (View.loadsAt_vmem h_S16x256)) fun _ =>
  .op (.store oM (Rect.unit (s := S256x256) (k0_off2 c) S16x256.size (k0_off2_inb c)) v517 Finset.univ
    (View.stores_vmem h_S16x256 ((Memref.isWhole_whole cc0_stg1_0).storeExact_slice rfl _ (k0_off2_packedbf16 c)) (fun _ => rfl)) (.inl rfl)) fun _ =>
  loop (opRecv2 c) rs15 <| loop (opSent1 c) rs15 <| loop (opSent2 c) rs15 <| .ret ⟨⟩

/-- After the first exchange: the sum of this device's block, and the second exchange. -/
def midP (c : Dev nD) : PG F :=
  .op (.load xM (Rect.unit (s := S256x256) (k0_off2 c) S16x256.size (k0_off2_inb c)).toLoadRect (View.loadsAt_vmem h_S16x256)) fun v356 =>
  .op (.load rM (Rect.unit (s := S16x16x256) ![1, 0, 0] S15x16x256.size inb_S16x16x256_S15x16x256_1_0_0).toLoadRect (View.loadsAt_vmem h_S15x16x256)) fun v358 =>
  .op (.load kM (Rect.unit (s := S16x256) ![0, 0] S16x256.size inb_S16x256_S16x256_0_0).toLoadRect (View.loadsAt_vmem h_S16x256)) fun _ =>
  .op (.store kM (Rect.unit (s := S16x256) ![0, 0] S16x256.size inb_S16x256_S16x256_0_0) (k0_pay3 (k0_pay2 v356) v358) Finset.univ
    (View.stores_vmem h_S16x256 ((Memref.isWhole_whole cc0_scratch2).storeExact_slice rfl _ packedbf16_S16x256_S16x256_0_0) (fun _ => rfl)) (.inl rfl)) fun _ =>
  loop (opSend2 c) rs15 <| tailP c

/-- The whole body, on the device it runs on. -/
def bodyP (c : Dev nD) : PG F :=
  loop (opSig c) rs15 <|
  .op (.load xM (Rect.unit (s := S256x256) ![0, 0] S256x256.size inb_S256x256_S256x256_0_0).toLoadRect (View.loadsAt_vmem h_S256x256)) fun v64 =>
  .op (.load lM (Rect.unit (s := S256x256) ![0, 0] S256x256.size inb_S256x256_S256x256_0_0).toLoadRect (View.loadsAt_vmem h_S256x256)) fun _ =>
  .op (.store lM (Rect.unit (s := S256x256) ![0, 0] S256x256.size inb_S256x256_S256x256_0_0) (k0_pay1 v64) Finset.univ
    (View.stores_vmem h_S256x256 ((Memref.isWhole_whole cc0_scratch0).storeExact_slice rfl _ packedbf16_S256x256_S256x256_0_0) (fun _ => rfl)) (.inl rfl)) fun _ =>
  .op (.semWait barS (15#32 : BitVec 32).toInt) fun _ =>
  loop (opSend1 c) rs15 <| loop (opRecv1 c) rs15 <| midP c

set_option maxRecDepth 65536 in
/-- The printed body is the program above, once it has read which device it runs on. -/
theorem body_eq : bodyAt0 (F := F) t0_0 = .op .deviceId fun c => bodyP c := by
  chain_rfl

end Cert.KProof
-- ==== Proof.Protocol.lean ====
/-
# 01_k — `Protocol`: who hands what to whom

Sixteen devices. Device `c` writes, at distance `r + 1` (`r : Fin 15`), to the device `fwd c r`. The exchange is a
round of duties on semaphore cells, at most one round each:

* the barrier cell of `c` has fifteen duties of one unit; duty `r` is paid by `fwd c r`, with what `c` needs to
  write to it: its landing slot at distance `r + 1` and its rows of the result that `c` fills;
* the cell "sent, first exchange" of `c` at slot `r + 1` returns the rows sent; "received, first exchange" gives the
  slot, written;
* the cell "sent, second exchange" of `c` at slot `r + 1` returns a share of the block summed; "received, second
  exchange" gives the rows of the result that the device `bwd c r` fills, written.

Element 0 of each semaphore array is never used: its cells have no duty.
-/
module

public import proofs.«01_k».proof.Proof.Loop
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.Transfers
public import Idealize.ShloMosaic.Lib.ValueLayout

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)
open Idealize.ShloMosaic.Ring (lead_disjoint lead_cover pointsTo_blocks pointsTo_blocks_join_exists)

variable {F : FTy → Type} [FloatOps F]

/-! ## The resource algebra -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory the run starts from: any contents, all counters zero. -/
def s₀ : MemSt nD τ sig (Elt F) := ⟨m, fun _ => 0, ρ⟩

/-! ## Around the ring -/

/-- The device at distance `r + 1` backwards. -/
def bwd (c : Dev nD) (r : Fin 15) : Dev nD := ⟨(c.val + (15 - r.val)) % 16, Nat.mod_lt _ (by decide)⟩

theorem bwd_fwd : ∀ (c : Dev nD) (r : Fin 15), bwd (fwd c r) r = c := by decide +kernel
theorem fwd_bwd : ∀ (c : Dev nD) (r : Fin 15), fwd (bwd c r) r = c := by decide +kernel
theorem fwd_fwd_rev : ∀ (c : Dev nD) (r : Fin 15), fwd (fwd c r) r.rev = c := by decide +kernel

/-- Going forward by `r + 1`, as a permutation of the devices. -/
def turn (r : Fin 15) : Dev nD ≃ Dev nD := ⟨fun c => fwd c r, fun c => bwd c r, fun c => bwd_fwd c r, fun c => fwd_bwd c r⟩

theorem ahead_bij : ∀ c : Dev nD, Function.Bijective (fun o : Option (Fin 15) => o.elim c (fwd c)) := by decide +kernel
theorem behind_bij : ∀ c : Dev nD, Function.Bijective (fun o : Option (Fin 15) => o.elim c (bwd c)) := by decide +kernel
theorem slots_bij : Function.Bijective (fun o : Option (Fin 15) => o.elim (0 : Fin 16) up) := by decide +kernel

/-- All devices: `c` itself and those ahead of it; `c` and those behind it. All slots: 0 and the distances'. -/
def ahead (c : Dev nD) : Option (Fin 15) ≃ Dev nD := Equiv.ofBijective _ (ahead_bij c)
def behind (c : Dev nD) : Option (Fin 15) ≃ Dev nD := Equiv.ofBijective _ (behind_bij c)
def slots : Option (Fin 15) ≃ Fin 16 := Equiv.ofBijective _ slots_bij

/-- The distance of a slot (0 for slot 0, which no distance uses). -/
abbrev down (b : Fin 16) : Fin 15 := ⟨b.val - 1, by have := b.isLt; omega⟩
theorem down_up (r : Fin 15) : down (up r) = r := Fin.ext (by show 1 + r.val - 1 = r.val; omega)
theorem up_ne_zero (r : Fin 15) : up r ≠ 0 := fun h => by
  have h1 : 1 + r.val = 0 := congrArg Fin.val h
  omega

section Families
variable {M : Type} [URA M]

theorem bigSep_opt {I : Type} [Fintype I] [DecidableEq I] (Φ : Option I → sProp M) :
    bigSep Finset.univ Φ = iprop(Φ none ∗ bigSep Finset.univ fun i => Φ (some i)) := by
  have h : (Finset.univ : Finset (Option I)) = insert none (Finset.univ.map Function.Embedding.some) := by
    ext o; cases o <;> simp
  rw [h, bigSep_insert (by simp), bigSep_map]; rfl

/-- A family over the devices from `c`'s member and those of the devices ahead (behind). -/
theorem bigSep_ahead (c : Dev nD) (Φ : Dev nD → sProp M) :
    bigSep Finset.univ Φ = iprop(Φ c ∗ bigSep Finset.univ fun r => Φ (fwd c r)) := by
  rw [bigSep_univ_equiv (ahead c) Φ, bigSep_opt]; rfl
theorem bigSep_behind (c : Dev nD) (Φ : Dev nD → sProp M) :
    bigSep Finset.univ Φ = iprop(Φ c ∗ bigSep Finset.univ fun r => Φ (bwd c r)) := by
  rw [bigSep_univ_equiv (behind c) Φ, bigSep_opt]; rfl
theorem bigSep_slots (Φ : Fin 16 → sProp M) :
    bigSep Finset.univ Φ = iprop(Φ 0 ∗ bigSep Finset.univ fun r => Φ (up r)) := by
  rw [bigSep_univ_equiv slots Φ, bigSep_opt]; rfl
theorem bigSep_rev (Φ : Fin 15 → sProp M) :
    bigSep Finset.univ Φ = bigSep Finset.univ fun r : Fin 15 => Φ r.rev := bigSep_univ_equiv Fin.revPerm Φ

end Families

/-! ## The cells -/

/-- A device's cells: the barrier's, and element `b` of array `j`. -/
abbrev CI : Type := Option (Fin 4 × Fin 16)
abbrev csem : CI → SemLoc sig
  | none => .reg barS
  | some (j, b) => .dma (dS j b)
abbrev kcell (ck : Dev nD × CI) : GSem nD τ sig := ((ck.1 : Thread nD τ), csem ck.2)
abbrev barCell (c : Dev nD) : GSem nD τ sig := ((c : Thread nD τ), .reg barS)
abbrev dCell (c : Dev nD) (j : Fin 4) (b : Fin 16) : GSem nD τ sig := ((c : Thread nD τ), .dma (dS j b))

/-- Which of the cells a semaphore is. -/
def dec : SemLoc sig → Option CI
  | .reg s => if s = barS then some none else none
  | .dma s => if h : 2 ≤ s.val then some (some (⟨(s.val - 2) / 16, by have : s.val < 66 := s.isLt; omega⟩, ⟨(s.val - 2) % 16, Nat.mod_lt _ (by decide)⟩))
      else none

theorem dec_bar : dec (.reg barS) = some none := by
  show (if barS = barS then some none else none) = _
  exact if_pos rfl
theorem dec_dma (j : Fin 4) (b : Fin 16) : dec (.dma (dS j b)) = some (some (j, b)) := by
  have hv : (dS j b).val = 2 + 16 * j.val + b.val := rfl
  have hb := b.isLt
  show (if h : 2 ≤ (dS j b).val then _ else _) = _
  rw [dif_pos (by rw [hv]; omega)]
  refine congrArg some (congrArg some (Prod.ext (Fin.ext ?_) (Fin.ext ?_)))
  · show ((dS j b).val - 2) / 16 = j.val
    rw [hv]; omega
  · show ((dS j b).val - 2) % 16 = b.val
    rw [hv]; omega
theorem dec_csem (i : CI) : dec (csem i) = some i := by
  rcases i with _ | ⟨j, b⟩
  · exact dec_bar
  · exact dec_dma j b

/-- The bytes' credit of one block: every transfer carries one. -/
abbrev N : ℕ := (kM : Memref sig .tc .vmem S16x256 .bf16).view.dmaCredit
theorem N_pos : 0 < N := View.dmaCredit_pos _ (by decide)

/-! ## Contents -/

/-- The staged argument on device `c`; its copy. -/
def xstg (c : Dev nD) : (cc0_stg0_0 : Ref sig .tc).ty.Contents (Elt F) :=
  (win0_0.blk (0 : Fin 1)).view.read (Elt F) ((s₀ m ρ).mem ((c : Thread nD τ).loc main_arg0))
def LO (c : Dev nD) : (cc0_scratch0 : Ref sig .tc).ty.Contents (Elt F) := k0_pay1 (xstg m ρ c)

/-- The device whose rows land in slot `b` of `c`. -/
def src (c : Dev nD) (b : Fin 16) : Dev nD := ⟨(c.val + (16 - b.val)) % 16, Nat.mod_lt _ (by decide)⟩
theorem src_up : ∀ (c : Dev nD) (r : Fin 15), src c (up r) = bwd c r := by decide +kernel

/-- Row `i` of block `d`. -/
def rowOf (d : Dev nD) (i : Fin 16) : Fin 256 := ⟨16 * d.val + i.val, by have : d.val < 16 := d.isLt; have := i.isLt; omega⟩

/-- The landing buffer of `c` after the first exchange: slot `b` holds block `c` of the argument of `src c b`. -/
def RS (c : Dev nD) : (cc0_scratch1 : Ref sig .tc).ty.Contents (Elt F) :=
  fun i => LO m ρ (src c (i 0)) (ix2 (rowOf c (i 1)) (i 2))

/-- The rectangles the loads read through. -/
abbrev rX (c : Dev nD) : Rect S256x256 := Rect.unit (s := S256x256) (k0_off2 c) S16x256.size (k0_off2_inb c)
abbrev rR : Rect S16x16x256 := Rect.unit (s := S16x16x256) ![1, 0, 0] S15x16x256.size inb_S16x16x256_S15x16x256_1_0_0
abbrev rK : Rect S16x256 := Rect.unit (s := S16x256) ![0, 0] S16x256.size inb_S16x256_S16x256_0_0
abbrev rA : Rect S256x256 := Rect.unit (s := S256x256) ![0, 0] S256x256.size inb_S256x256_S256x256_0_0

/-- The block `c` sums: its own rows and those landed. -/
def CH (c : Dev nD) : (cc0_scratch2 : Ref sig .tc).ty.Contents (Elt F) :=
  k0_pay3 (k0_pay2 ((xM : Memref sig .tc .vmem S256x256 .bf16).view.readAt (Elt F) (rX c).toLoadRect (xstg m ρ c)))
    ((rM : Memref sig .tc .vmem S16x16x256 .bf16).view.readAt (Elt F) rR.toLoadRect (RS m ρ c))

/-- The result, the same on every device: block `d` of rows is what `d` sums. -/
def OUT : (cc0_stg1_0 : Ref sig .tc).ty.Contents (Elt F) :=
  fun i => CH m ρ ⟨(i 0).val / 16, by have : (i 0).val < 256 := (i 0).isLt; show _ < 16; omega⟩
    (ix2 ⟨(i 0).val % 16, Nat.mod_lt _ (by decide)⟩ (i 1))

/-! ## The parts of the buffers -/

theorem rows_inb : ∀ d : Dev nD, ∀ a, (![16 * d.val, 0] : Fin 2 → Nat) a + S16x256.size a ≤ S256x256.size a := by decide +kernel
/-- Block `d` of sixteen rows of a 256 × 256 buffer. -/
abbrev rowsR (d : Dev nD) : Rect S256x256 := Rect.unit (s := S256x256) ![16 * d.val, 0] S16x256.size (rows_inb d)
abbrev slotR (b : Fin 16) : Rect S16x16x256 := Rect.unit (s := S16x16x256) ![b.val, 0, 0] S1x16x256.size (slot_inb b)

theorem off1_fwd (c : Dev nD) (r : Fin 15) : k0_off1 c (BitVec.ofNat 32 (1 + r.val)) = ![16 * (fwd c r).val, 0] := by
  rw [k0_off1_eq]
  show ![16 * ((c.val + r.val + 1) % 16), 0] = ![16 * ((c.val + (1 + r.val)) % 16), 0]
  rw [show c.val + r.val + 1 = c.val + (1 + r.val) from by omega]

theorem unit_set_congr {s : Shape} {off off' size : Fin s.rank → Nat} {h h'} (e : off = off') :
    (Rect.unit (s := s) off size h).set = (Rect.unit (s := s) off' size h').set := by subst e; rfl

theorem row_set (c : Dev nD) (r : Fin 15) : (rowM c r).view.set = (rowsR (fwd c r)).set :=
  (View.set_slice_whole _ _).trans (unit_set_congr (off1_fwd c r))
theorem out_set (c : Dev nD) : (outM c).view.set = (rowsR c).set :=
  (View.set_slice_whole _ _).trans (unit_set_congr (k0_off3_eq c))
theorem rX_set (c : Dev nD) : (rX c).set = (rowsR c).set := unit_set_congr (k0_off2_eq c)
theorem slot_set (b : Fin 16) : (slotM b).view.set = (slotR b).set :=
  (View.set_reshape _ _).trans (View.set_slice_whole _ _)

theorem rows_disjoint (d d' : Dev nD) (h : d ≠ d') : Disjoint (rowsR d).set (rowsR d').set :=
  lead_disjoint (s := S256x256) (NB := 16) (0 : Fin 2) 16 (off := fun d : Fin 16 => ![16 * d.val, 0]) (size := S16x256.size) (inb := rows_inb)
    (hoff₀ := fun b => rfl) (hsz₀ := rfl) d d' h
theorem slot_disjoint (d d' : Fin 16) (h : d ≠ d') : Disjoint (slotR d).set (slotR d').set :=
  lead_disjoint (s := S16x16x256) (NB := 16) (0 : Fin 3) 1 (off := fun d : Fin 16 => ![d.val, 0, 0]) (size := S1x16x256.size) (inb := slot_inb)
    (hoff₀ := fun b => (Nat.one_mul _).symm) (hsz₀ := rfl) d d' h

theorem rows_cover : (Finset.univ : Finset (Dev nD)).biUnion (fun d => (rowsR d).set) = Finset.univ :=
  lead_cover (s := S256x256) (NB := 16) (0 : Fin 2) 16 (off := fun d : Fin 16 => ![16 * d.val, 0]) (size := S16x256.size) (inb := rows_inb)
    (hoff₀ := fun b => rfl) (hoff := fun b => by decide +revert) (hsz₀ := rfl) (hsz := by decide) rfl
theorem slot_cover : (Finset.univ : Finset (Fin 16)).biUnion (fun d => (slotR d).set) = Finset.univ :=
  lead_cover (s := S16x16x256) (NB := 16) (0 : Fin 3) 1 (off := fun d : Fin 16 => ![d.val, 0, 0]) (size := S1x16x256.size) (inb := slot_inb)
    (hoff₀ := fun b => (Nat.one_mul _).symm) (hoff := fun b => by decide +revert) (hsz₀ := rfl) (hsz := by decide) rfl

/-! ## The holdings that change hands -/

/-- Slot `b` of the landing buffer of `d`; the rows of the copy on `c` for distance `r + 1`; the rows of the result
    on `d` that `c` fills; the share of the summed block on `c` that distance `r + 1`'s transfer reads. -/
def slotPts (d : Dev nD) (b : Fin 16) (f : (cc0_scratch1 : Ref sig .tc).ty.Contents (Elt F)) : sProp 𝕄 :=
  (slotM b).view.loc (d : Thread nD τ) ↦[(slotM b).view.set]{fullShare} f
def rowPts (c : Dev nD) (r : Fin 15) : sProp 𝕄 :=
  (rowM c r).view.loc (c : Thread nD τ) ↦[(rowM c r).view.set]{fullShare} (LO m ρ c)
def outPts (d c : Dev nD) (f : (cc0_stg1_0 : Ref sig .tc).ty.Contents (Elt F)) : sProp 𝕄 :=
  (outM c).view.loc (d : Thread nD τ) ↦[(outM c).view.set]{fullShare} f
def chunkPts (c : Dev nD) (r : Fin 15) : sProp 𝕄 :=
  (kM : Memref sig .tc .vmem S16x256 .bf16).view.loc (c : Thread nD τ) ↦[(kM : Memref sig .tc .vmem S16x256 .bf16).view.set]{Idealize.ShloMosaic.Transfers.shareTok fullShare 15 r} (CH m ρ c)

instance slotPts_storable (d : Dev nD) (b : Fin 16) (f) : BI.Storable (upEmb : UEmb _ 𝕄) (slotPts (F := F) d b f) := by unfold slotPts; infer_instance
instance rowPts_storable (c : Dev nD) (r : Fin 15) : BI.Storable (upEmb : UEmb _ 𝕄) (rowPts (F := F) m ρ c r) := by unfold rowPts; infer_instance
instance outPts_storable (d c : Dev nD) (f) : BI.Storable (upEmb : UEmb _ 𝕄) (outPts (F := F) d c f) := by unfold outPts; infer_instance
instance chunkPts_storable (c : Dev nD) (r : Fin 15) : BI.Storable (upEmb : UEmb _ 𝕄) (chunkPts (F := F) m ρ c r) := by unfold chunkPts; infer_instance

/-- What `c` needs to write to `fwd c r`: its slot there and its rows of the result there. -/
def barPay (c : Dev nD) (r : Fin 15) : sProp 𝕄 :=
  iprop((∃ f, slotPts (F := F) (fwd c r) (up r) f) ∗ ∃ f, outPts (F := F) (fwd c r) c f)

/-- The payload of duty `d` of cell `i` of device `c`. -/
def payAt (c : Dev nD) : CI → Fin 15 → sProp 𝕄
  | none, d => barPay c d
  | some (⟨0, _⟩, b), _ => rowPts m ρ c (down b)
  | some (⟨1, _⟩, b), _ => slotPts c b (RS m ρ c)
  | some (⟨2, _⟩, b), _ => chunkPts m ρ c (down b)
  | some (⟨3, _⟩, b), _ => outPts c (src c b) (OUT m ρ)

instance payAt_storable (c : Dev nD) (i : CI) (d : Fin 15) : BI.Storable (upEmb : UEmb _ 𝕄) (payAt (F := F) m ρ c i d) := by
  rcases i with _ | ⟨j, b⟩
  · show BI.Storable _ (barPay (F := F) c d); unfold barPay; infer_instance
  · fin_cases j
    · exact rowPts_storable m ρ c (down b)
    · exact slotPts_storable c b (RS m ρ c)
    · exact chunkPts_storable m ρ c (down b)
    · exact outPts_storable c (src c b) (OUT m ρ)

/-! ## The schedule -/

/-- The duties of a cell: fifteen for the barrier's, one for each slot a distance uses. -/
def dutiesAt : CI → Finset (Fin 15)
  | none => Finset.univ
  | some (_, b) => if b = 0 then ∅ else {0}

def Rd : Rounds.Schedule (GSem nD τ sig) (Fin 15) 𝕄 where
  duties g r := if r = 0 ∧ g.1.2 = .tc then ((dec g.2).elim ∅ dutiesAt) else ∅
  unitless _ := False
  amount g _ _ := if dec g.2 = some none then 1 else N
  payload g _ d := (dec g.2).elim iprop(emp) fun i => payAt m ρ g.1.1 i d
  amount_pos g _ _ _ := by
    by_cases h : dec g.2 = some none
    · rw [if_pos h]; exact Nat.one_pos
    · rw [if_neg h]; exact N_pos

instance Rd_payload_storable (g : GSem nD τ sig) (r : ℕ) (d : Fin 15) :
    BI.Storable (upEmb : UEmb _ 𝕄) ((Rd (F := F) m ρ).payload g r d) := by
  show BI.Storable upEmb ((dec g.2).elim iprop(emp) fun i => payAt m ρ g.1.1 i d)
  cases dec g.2 with
  | none => exact inferInstanceAs (BI.Storable _ iprop(emp))
  | some i => exact payAt_storable m ρ g.1.1 i d

section Sched
variable (c : Dev nD)

theorem duties_cell (i : CI) : (Rd (F := F) m ρ).duties (kcell (c, i)) 0 = dutiesAt i := by
  show (if 0 = 0 ∧ (kcell (c, i)).1.2 = .tc then ((dec (csem i)).elim ∅ dutiesAt) else ∅) = _
  rw [if_pos ⟨rfl, rfl⟩, dec_csem]; rfl
theorem payload_cell (i : CI) (d : Fin 15) : (Rd (F := F) m ρ).payload (kcell (c, i)) 0 d = payAt m ρ c i d := by
  show (dec (csem i)).elim iprop(emp) (fun i => payAt m ρ c i d) = _
  rw [dec_csem]; rfl
theorem duties_later (g : GSem nD τ sig) : ∀ r, 1 ≤ r → (Rd (F := F) m ρ).duties g r = ∅ :=
  fun r hr => if_neg fun h => by omega

theorem duties_bar : (Rd (F := F) m ρ).duties (barCell c) 0 = Finset.univ := duties_cell m ρ c none
theorem duties_dma (j : Fin 4) (r : Fin 15) : (Rd (F := F) m ρ).duties (dCell c j (up r)) 0 = {0} :=
  (duties_cell m ρ c (some (j, up r))).trans (if_neg (up_ne_zero r))
/-- Element 0's cells have no duty in any round. -/
theorem duties_unused (j : Fin 4) : ∀ r, 0 ≤ r → (Rd (F := F) m ρ).duties (dCell c j 0) r = ∅ := fun r _ => by
  rcases Nat.eq_zero_or_pos r with rfl | h
  · exact (duties_cell m ρ c (some (j, 0))).trans (show (if (0 : Fin 16) = 0 then ∅ else {0}) = _ from if_pos rfl)
  · exact duties_later m ρ _ r h
theorem duty_mem (j : Fin 4) (r : Fin 15) : (0 : Fin 15) ∈ (Rd (F := F) m ρ).duties (dCell c j (up r)) 0 := by
  rw [duties_dma]; exact Finset.mem_singleton_self _

theorem amount_bar (d : Fin 15) : (Rd (F := F) m ρ).amount (barCell c) 0 d = 1 := by
  show (if dec (.reg barS) = some none then 1 else N) = 1
  exact if_pos dec_bar
theorem amount_dma (j : Fin 4) (b : Fin 16) (d : Fin 15) : (Rd (F := F) m ρ).amount (dCell c j b) 0 d = N := by
  refine if_neg ?_
  show ¬ dec (.dma (dS j b)) = some none
  rw [dec_dma]; exact fun h => by cases h

theorem expect_bar : (Rd (F := F) m ρ).expect (barCell c) 0 = 15 := by
  unfold Schedule.expect Schedule.amountOf
  rw [duties_bar, Finset.sum_congr rfl fun d _ => amount_bar m ρ c d, Finset.sum_const, Finset.card_univ, Fintype.card_fin, smul_eq_mul]
theorem expect_dma (j : Fin 4) (r : Fin 15) : (Rd (F := F) m ρ).expect (dCell c j (up r)) 0 = N := by
  unfold Schedule.expect Schedule.amountOf; rw [duties_dma, Finset.sum_singleton, amount_dma]

theorem rest_bar : bigSep ((Rd (F := F) m ρ).duties (barCell c) 0 \ ∅) (fun d => (Rd (F := F) m ρ).payload (barCell c) 0 d)
    = bigSep Finset.univ (barPay (F := F) c) := by
  rw [Finset.sdiff_empty, duties_bar]; exact bigSep_congr fun d _ => payload_cell m ρ c none d
theorem rest_dma (j : Fin 4) (r : Fin 15) : bigSep ((Rd (F := F) m ρ).duties (dCell c j (up r)) 0 \ ∅) (fun d => (Rd (F := F) m ρ).payload (dCell c j (up r)) 0 d)
    = payAt m ρ c (some (j, up r)) 0 := by
  rw [Finset.sdiff_empty, duties_dma, bigSep_singleton]; exact payload_cell m ρ c (some (j, up r)) 0

end Sched

/-! ## What a device owes, and the order of its waits -/

/-- What it pays forward at distance `r + 1`: the barrier's unit, the first exchange's block, the second's. -/
def tB (c : Dev nD) (r : Fin 15) : CellTallies nD τ sig Unit := tallyAt (barCell (fwd c r)) () 1
def t1 (c : Dev nD) (r : Fin 15) : CellTallies nD τ sig Unit := tallyAt (dCell (fwd c r) 1 (up r)) () N
def t3 (c : Dev nD) (r : Fin 15) : CellTallies nD τ sig Unit := tallyAt (dCell (fwd c r) 3 (up r)) () N

/-- What is still owed when the distances of a list are still to be done, on top of `O`. -/
def osum (t : Fin 15 → CellTallies nD τ sig Unit) (O : CellTallies nD τ sig Unit) : List (Fin 15) → CellTallies nD τ sig Unit
  | [] => O
  | r :: rs => osum t O rs + t r

def O3 (c : Dev nD) : CellTallies nD τ sig Unit := osum (t3 c) 0 rs15
def O1 (c : Dev nD) : CellTallies nD τ sig Unit := osum (t1 c) (O3 c) rs15
def O₀ (c : Dev nD) : CellTallies nD τ sig Unit := osum (tB c) (O1 c) rs15

def L (g : GSem nD τ sig) : Finset Unit := if g.1.2 = .tc then {()} else ∅
/-- Barrier cells first, then the first exchange's arrivals, then the second's; the waits owing nothing need no order. -/
def lv (g : GSem nD τ sig) (_ : Unit) : ℕ := (dec g.2).elim 0 fun
  | none => 1
  | some (j, _) => if j = 1 then 2 else if j = 3 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [show dec (barCell c).2 = _ from dec_bar]; rfl
theorem lv_1 (c : Dev nD) (b : Fin 16) : lv (dCell c 1 b) () = 2 := by unfold lv; rw [show dec (dCell c 1 b).2 = _ from dec_dma 1 b]; rfl
theorem lv_3 (c : Dev nD) (b : Fin 16) : lv (dCell c 3 b) () = 3 := by unfold lv; rw [show dec (dCell c 3 b).2 = _ from dec_dma 3 b]; rfl

/-- A positive debt is to one of the cells paid. -/
theorem osum_pos {t : Fin 15 → CellTallies nD τ sig Unit} {O : CellTallies nD τ sig Unit} {g : GSem nD τ sig} {u : Unit} :
    ∀ rs : List (Fin 15), 0 < osum t O rs g u → 0 < O g u ∨ ∃ r, 0 < t r g u
  | [], h => .inl h
  | r :: rs, h => by
    unfold osum at h
    rw [Pi.add_apply, Finsupp.add_apply] at h
    rcases Nat.eq_zero_or_pos (t r g u) with h0 | h0
    · exact osum_pos rs (by omega)
    · exact .inr ⟨r, h0⟩

theorem tallyAt_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem O3_pos {c : Dev nD} {g : GSem nD τ sig} {u : Unit} (h : 0 < O3 c g u) : g.1.2 = .tc ∧ 3 ≤ lv g u := by
  rcases osum_pos rs15 h with h | ⟨r, h⟩
  · exact absurd h (Nat.lt_irrefl 0)
  · rw [tallyAt_pos h]; exact ⟨rfl, (lv_3 _ _).ge⟩
theorem O1_pos {c : Dev nD} {g : GSem nD τ sig} {u : Unit} (h : 0 < O1 c g u) : g.1.2 = .tc ∧ 2 ≤ lv g u := by
  rcases osum_pos rs15 h with h | ⟨r, h⟩
  · exact ⟨(O3_pos h).1, (O3_pos h).2.trans' (by decide)⟩
  · rw [tallyAt_pos h]; exact ⟨rfl, (lv_1 _ _).ge⟩
theorem O₀_pos {c : Dev nD} {g : GSem nD τ sig} {u : Unit} (h : 0 < O₀ c g u) : g.1.2 = .tc ∧ 1 ≤ lv g u := by
  rcases osum_pos rs15 h with h | ⟨r, h⟩
  · exact ⟨(O1_pos h).1, (O1_pos h).2.trans' (by decide)⟩
  · rw [tallyAt_pos h]; exact ⟨rfl, (lv_bar _).ge⟩

/-- A wait on a cell of a level below everything owed is allowed. -/
theorem mayWait_below (c : Dev nD) (sm : SemLoc sig) (n : ℕ) (O : CellTallies nD τ sig Unit)
    (hlv : lv ((c : Thread nD τ), sm) () ≤ n) (hO : ∀ g u, 0 < O g u → g.1.2 = .tc ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hlv)
    (fun g u hg => (hO g u hg).2)

theorem mayWait_bar (c : Dev nD) : (levAts L lv : sProp 𝕄) ⊢ MayWait (c : Thread nD τ) (.reg barS) () (O1 c) :=
  mayWait_below c _ 1 _ (lv_bar c).le fun _ _ h => O1_pos h
theorem mayWait_recv1 (c : Dev nD) (r : Fin 15) : (levAts L lv : sProp 𝕄) ⊢ MayWait (c : Thread nD τ) (.dma (dS 1 (up r))) () (O3 c) :=
  mayWait_below c _ 2 _ (lv_1 c (up r)).le fun _ _ h => O3_pos h
/-- The staging transfers' waits, whatever is owed at launch or nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  refine mayWait_below c _ 0 _ ?_ fun g u h => ?_
  · unfold lv
    show ((dec (.dma q)).elim 0 _) ≤ 0
    rw [show dec (.dma q) = none from dif_neg (by omega)]
    exact Nat.le_refl 0
  · rcases hO with rfl | rfl
    · exact O₀_pos h
    · exact absurd h (Nat.lt_irrefl 0)

end Cert.KProof
-- ==== Proof.Steps.lean ====
/-
# 01_k — `Steps`: each loop of the body, by one induction over the distances

`wp_loop` runs a loop from a step at one distance; the seven loops are its instances.
-/
module

public import proofs.«01_k».proof.Proof.Protocol

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 eq_ix2 reshapeEquiv_ix2_1ab)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`. -/
abbrev wpc (c : Dev nD) (p : PG F) (Q : PUnit → sProp 𝕄) : sProp 𝕄 :=
  wp frame (wpE (defs₀ (F := F)) 𝒱₀ (c : Thread nD τ) none) Set.univ p Q

/-! ## What lands where -/

theorem slot_emb (b x : Fin 16) (y : Fin 256) : (slotM b).view.emb (ix2 x y) = ix3 b x y := by
  show (slotR b).emb (Shape.reshapeEquiv _ (ix2 x y)) = _
  rw [reshapeEquiv_ix2_1ab]
  funext a
  match a with
  | ⟨0, _⟩ => exact Fin.ext (by rw [Rect.emb_apply]; show b.val + 1 * 0 = b.val; omega)
  | ⟨1, _⟩ => exact Fin.ext (by rw [Rect.emb_apply]; show 0 + 1 * x.val = x.val; omega)
  | ⟨2, _⟩ => exact Fin.ext (by rw [Rect.emb_apply]; show 0 + 1 * y.val = y.val; omega)

/-- The block of rows at offset `16 * d` sends `(x, y)` to row `x` of block `d`, column `y`. -/
theorem unit_emb {off : Fin 2 → Nat} {inb} (d : Dev nD) (h : off = ![16 * d.val, 0]) (x : Fin 16) (y : Fin 256) :
    (Rect.unit (s := S256x256) off S16x256.size inb).emb (ix2 x y) = ix2 (rowOf d x) y := by
  subst h
  funext a
  match a with
  | ⟨0, _⟩ => exact Fin.ext (by rw [Rect.emb_apply]; show 16 * d.val + 1 * x.val = 16 * d.val + x.val; omega)
  | ⟨1, _⟩ => exact Fin.ext (by rw [Rect.emb_apply]; show 0 + 1 * y.val = y.val; omega)

theorem row_emb (c : Dev nD) (r : Fin 15) (x : Fin 16) (y : Fin 256) : (rowM c r).view.emb (ix2 x y) = ix2 (rowOf (fwd c r) x) y :=
  unit_emb (fwd c r) (off1_fwd c r) x y
theorem out_emb (c : Dev nD) (x : Fin 16) (y : Fin 256) : (outM c).view.emb (ix2 x y) = ix2 (rowOf c x) y :=
  unit_emb c (k0_off3_eq c) x y

theorem src_fwd : ∀ (c : Dev nD) (r : Fin 15), src (fwd c r) (up r) = c := by decide +kernel

/-- The first exchange's transfer leaves in the slot what the landing buffer is said to hold there. -/
theorem land1 (c : Dev nD) (r : Fin 15) (fd : (cc0_scratch1 : Ref sig .tc).ty.Contents (Elt F)) :
    ∀ i ∈ (slotM (up r)).view.set, (slotM (up r)).view.write (Elt F) fd ((rowM c r).view.read (Elt F) (LO m ρ c)) Finset.univ i = RS m ρ (fwd c r) i := by
  intro i hi
  obtain ⟨z, -, rfl⟩ := Finset.mem_map.mp hi
  rw [View.write_emb_of_mem _ _ (Finset.mem_univ z)]
  show LO m ρ c ((rowM c r).view.emb z) = RS m ρ (fwd c r) ((slotM (up r)).view.emb z)
  obtain ⟨x, y, rfl⟩ : ∃ (x : Fin 16) (y : Fin 256), z = ix2 x y := ⟨z 0, z 1, eq_ix2 z⟩
  refine (congrArg (LO m ρ c) (row_emb c r x y)).trans (Eq.symm ((congrArg (RS m ρ (fwd c r)) (slot_emb (up r) x y)).trans ?_))
  show LO m ρ (src (fwd c r) (up r)) (ix2 (rowOf (fwd c r) x) y) = _
  rw [src_fwd]

theorem OUT_row (c : Dev nD) (x : Fin 16) (y : Fin 256) : OUT m ρ (ix2 (rowOf c x) y) = CH m ρ c (ix2 x y) := by
  have hx := x.isLt
  have e1 : (rowOf c x).val / 16 = c.val := by show (16 * c.val + x.val) / 16 = c.val; omega
  have e2 : (rowOf c x).val % 16 = x.val := by show (16 * c.val + x.val) % 16 = x.val; omega
  have key : ∀ (d : Dev nD) (x' : Fin 16), d = c → x' = x → CH m ρ d (ix2 x' y) = CH m ρ c (ix2 x y) := by
    rintro _ _ rfl rfl; rfl
  exact key ⟨(rowOf c x).val / 16, _⟩ ⟨(rowOf c x).val % 16, _⟩ (Fin.ext e1) (Fin.ext e2)

/-- The second exchange's transfer leaves in the rows of the result what the result is said to hold there; -/
theorem land2 (c : Dev nD) (fd : (cc0_stg1_0 : Ref sig .tc).ty.Contents (Elt F)) :
    ∀ i ∈ (outM c).view.set, (outM c).view.write (Elt F) fd ((kM : Memref sig .tc .vmem S16x256 .bf16).view.read (Elt F) (CH m ρ c)) Finset.univ i = OUT m ρ i := by
  intro i hi
  obtain ⟨z, -, rfl⟩ := Finset.mem_map.mp hi
  rw [View.write_emb_of_mem _ _ (Finset.mem_univ z)]
  show CH m ρ c z = OUT m ρ ((outM c).view.emb z)
  obtain ⟨x, y, rfl⟩ : ∃ (x : Fin 16) (y : Fin 256), z = ix2 x y := ⟨z 0, z 1, eq_ix2 z⟩
  exact ((congrArg (OUT m ρ) (out_emb c x y)).trans (OUT_row m ρ c x y)).symm

/-- and so does the store of the device's own block. -/
theorem land_own (c : Dev nD) (fd : (cc0_stg1_0 : Ref sig .tc).ty.Contents (Elt F)) :
    ∀ i ∈ (outM c).view.set, ((oM : Memref sig .tc .vmem S256x256 .bf16).access (rX c) : View sig .tc _ _ _).write (Elt F) fd (CH m ρ c) Finset.univ i = OUT m ρ i := by
  intro i hi
  rw [out_set, ← rX_set] at hi
  obtain ⟨z, -, rfl⟩ := Finset.mem_map.mp ((Rect.map_emb_univ (rX c)).symm ▸ hi)
  rw [show (rX c).emb z = ((oM : Memref sig .tc .vmem S256x256 .bf16).access (rX c) : View sig .tc _ _ _).emb z from rfl,
    View.write_emb_of_mem _ _ (Finset.mem_univ z)]
  show CH m ρ c z = OUT m ρ ((rX c).emb z)
  obtain ⟨x, y, rfl⟩ : ∃ (x : Fin 16) (y : Fin 256), z = ix2 x y := ⟨z 0, z 1, eq_ix2 z⟩
  exact ((congrArg (OUT m ρ) (unit_emb c (k0_off2_eq c) x y)).trans (OUT_row m ρ c x y)).symm

/-! ## The shared records -/

/-- The order of the waits, held shut. -/
@[irreducible] def lvls : sProp 𝕄 := levAts L lv
instance lvls_persistent : BI.Persistent (lvls (F := F)) := by unfold lvls; infer_instance
theorem lvls_open {P : sProp 𝕄} (h : (levAts L lv : sProp 𝕄) ⊢ P) : lvls ⊢ P := by unfold lvls; exact h

/-- Every cell's invariant, at the names `K`, and that every cell has reached round 0; -/
def cellsRec (K : Dev nD × CI → ℕ) : sProp 𝕄 :=
  iprop((bigSep Finset.univ fun ck : Dev nD × CI => cellInv ER (Rd m ρ) (K ck) (kcell ck))
    ∗ (bigSep Finset.univ fun ck : Dev nD × CI => reached ER (kcell ck) 0))
/-- with the order of the waits. -/
def records (K : Dev nD × CI → ℕ) : sProp 𝕄 := iprop(cellsRec m ρ K ∗ lvls)

instance cellsRec_persistent (K : Dev nD × CI → ℕ) : BI.Persistent (cellsRec m ρ K) := by unfold cellsRec; infer_instance
instance records_persistent (K : Dev nD × CI → ℕ) : BI.Persistent (records m ρ K) := by unfold records; infer_instance

theorem rec_inv (K : Dev nD × CI → ℕ) (ck : Dev nD × CI) : records m ρ K ⊢ cellInv ER (Rd m ρ) (K ck) (kcell ck) := by
  have h : (bigSep Finset.univ fun ck : Dev nD × CI => (cellInv ER (Rd m ρ) (K ck) (kcell ck) : sProp 𝕄)) ⊢ cellInv ER (Rd m ρ) (K ck) (kcell ck) :=
    bigSep_elim (Finset.mem_univ ck)
  unfold records cellsRec; iintro ⟨⟨H, -⟩, -⟩
  iapply h; iexact H
theorem rec_reached (K : Dev nD × CI → ℕ) (ck : Dev nD × CI) : records m ρ K ⊢ reached ER (kcell ck) 0 := by
  have h : (bigSep Finset.univ fun ck : Dev nD × CI => (reached ER (kcell ck) 0 : sProp 𝕄)) ⊢ reached ER (kcell ck) 0 := bigSep_elim (Finset.mem_univ ck)
  unfold records cellsRec; iintro ⟨⟨-, H⟩, -⟩
  iapply h; iexact H
theorem rec_lev (K : Dev nD × CI → ℕ) : records m ρ K ⊢ lvls := by
  unfold records; iintro ⟨-, H⟩; iexact H

/-! ## A loop from its step -/

/-- What is owed, whatever has been waited for. -/
def owesE (c : Dev nD) (O : CellTallies nD τ sig Unit) : sProp 𝕄 := iprop(∃ W, owes (c : Thread nD τ) O W)

theorem bigSep_ins {M : Type} [URA M] {I : Type} [DecidableEq I] {s : Finset I} {i : I} (h : i ∉ s) (Φ : I → sProp M) :
    bigSep (insert i s) Φ = iprop(Φ i ∗ bigSep s Φ) := bigSep_insert h

theorem wp_loop (c : Dev nD) (f : Fin 15 → P1 F) (R : sProp 𝕄) [BI.Persistent R] (A B : Fin 15 → sProp 𝕄) (I : List (Fin 15) → sProp 𝕄)
    (Q : PUnit → sProp 𝕄)
    (step : ∀ r rs (k : PUnit → PG F), iprop(R ∗ A r ∗ I (r :: rs)) ⊢ iprop(((B r ∗ I rs) -∗ wpc c (k ⟨⟩) Q) -∗ wpc c (.op (f r) k) Q))
    (p : PG F) : ∀ rs : List (Fin 15), rs.Nodup →
      iprop(R ∗ bigSep rs.toFinset A ∗ I rs) ⊢ iprop(((bigSep rs.toFinset B ∗ I []) -∗ wpc c p Q) -∗ wpc c (loop f rs p) Q)
  | [], _ => by
    iintro ⟨-, -, HI⟩ Hk
    iapply Hk
    isplitr
    · rw [List.toFinset_nil, bigSep_empty]; iempintro
    · iexact HI
  | r :: rs, h => by
    have hr : r ∉ rs.toFinset := fun hm => (List.nodup_cons.mp h).1 (List.mem_toFinset.mp hm)
    rw [List.toFinset_cons, bigSep_ins hr, bigSep_ins hr]
    iintro ⟨#HR, ⟨HA, HAs⟩, HI⟩ Hk
    iapply (step r rs fun _ => loop f rs p) $$ [HA HI]
    · isplitr; · iexact HR
      isplitl [HA] <;> iassumption
    iintro ⟨HB, HI⟩
    iapply (wp_loop c f R A B I Q step p rs (List.nodup_cons.mp h).2) $$ [HAs HI]
    · isplitr; · iexact HR
      isplitl [HAs] <;> iassumption
    iintro ⟨HBs, HI⟩
    iapply Hk
    isplitl [HB HBs]
    · isplitl [HB] <;> iassumption
    · iexact HI

/-- Over all the distances. -/
theorem wp_loop_all (c : Dev nD) (f : Fin 15 → P1 F) (R : sProp 𝕄) [BI.Persistent R] (A B : Fin 15 → sProp 𝕄) (I : List (Fin 15) → sProp 𝕄)
    (Q : PUnit → sProp 𝕄)
    (step : ∀ r rs (k : PUnit → PG F), iprop(R ∗ A r ∗ I (r :: rs)) ⊢ iprop(((B r ∗ I rs) -∗ wpc c (k ⟨⟩) Q) -∗ wpc c (.op (f r) k) Q))
    (p : PG F) :
      iprop(R ∗ bigSep Finset.univ A ∗ I rs15) ⊢ iprop(((bigSep Finset.univ B ∗ I []) -∗ wpc c p Q) -∗ wpc c (loop f rs15 p) Q) :=
  wp_loop c f R A B I Q step p rs15 (by decide)

/-! ## The seven loops -/

section Loops

/-- Every transfer is of one block. -/
theorem slot_amount (b : Fin 16) (q : DmaSem sig) : (slotM b).view.amount (.dma q) = N := rfl
theorem out_amount (c : Dev nD) (q : DmaSem sig) : (outM c).view.amount (.dma q) = N := rfl

variable (K : Dev nD × CI → ℕ) (c : Dev nD)

/-- The signals: each hands the device at that distance its slot here and its rows of the result here. -/
theorem wp_sig (p : PG F) (Q : PUnit → sProp 𝕄) :
    iprop(records m ρ K
        ∗ (bigSep Finset.univ fun r : Fin 15 => iprop(dutyTok ER (barCell (fwd c r)) 0 r.rev
            ∗ (∃ f, slotPts (F := F) c (up r.rev) f) ∗ ∃ f, outPts (F := F) c (fwd c r) f))
        ∗ owesE c (O₀ c))
      ⊢ iprop(((bigSep Finset.univ (fun _ : Fin 15 => (iprop(emp) : sProp 𝕄)) ∗ owesE c (O1 c)) -∗ wpc c p Q) -∗ wpc c (loop (opSig c) rs15 p) Q) := by
  refine wp_loop_all c (opSig c) (records m ρ K) _ _ (fun rs => owesE c (osum (tB c) (O1 c) rs)) Q (fun r rs k => ?_) p
  unfold opSig owesE
  rw [sigDev_eq]
  iintro ⟨#HR, ⟨Htok, Hs, Hout⟩, ⟨%W, HO⟩⟩ Hk
  iapply (Rounds.wp_signal 𝒱₀ ER (Rd m ρ) (c : Thread nD τ) none (dst := (fwd c r : Thread nD τ)) (κ := K (fwd c r, none))
      (d := r.rev) (by rw [duties_bar]; exact Finset.mem_univ _) ((amount_bar m ρ (fwd c r) r.rev).trans (by decide)) () (osum (tB c) (O1 c) rs) rfl)
    $$ [HO Htok Hs Hout]
  · isplitr; · iapply (rec_inv m ρ K (fwd c r, none)); iexact HR
    isplitl [HO]; · iexact HO
    isplitl [Htok]; · iexact Htok
    isplitl [Hs Hout]
    · rw [show (Rd m ρ).payload (fwd c r, SemLoc.reg barS) 0 r.rev = barPay (fwd c r) r.rev from payload_cell m ρ (fwd c r) none r.rev]
      unfold barPay; rw [fwd_fwd_rev]
      isplitl [Hs] <;> iassumption
    · iapply (rec_reached m ρ K (fwd c r, none)); iexact HR
  iintro HO
  iapply Hk
  isplitr; · iempintro
  iexists W; iexact HO

/-- The first exchange's transfers. -/
theorem wp_send1 (p : PG F) (Q : PUnit → sProp 𝕄) :
    iprop(records m ρ K
        ∗ (bigSep Finset.univ fun r : Fin 15 => iprop(dutyTok ER (dCell c 0 (up r)) 0 0 ∗ dutyTok ER (dCell (fwd c r) 1 (up r)) 0 0
            ∗ rowPts m ρ c r ∗ ∃ f, slotPts (F := F) (fwd c r) (up r) f))
        ∗ owesE c (O1 c))
      ⊢ iprop(((bigSep Finset.univ (fun r : Fin 15 => (cred (tallyAt (dCell c 0 (up r)) () N) : sProp 𝕄)) ∗ owesE c (O3 c)) -∗ wpc c p Q)
          -∗ wpc c (loop (opSend1 c) rs15 p) Q) := by
  refine wp_loop_all c (opSend1 c) (records m ρ K) _ _ (fun rs => owesE c (osum (t1 c) (O3 c) rs)) Q (fun r rs k => ?_) p
  unfold opSend1 owesE
  rw [devA_eq]
  unfold send1At
  iintro ⟨#HR, ⟨Ht0, Ht1, Hrow, ⟨%fd, Hs⟩⟩, ⟨%W, HO⟩⟩ Hk
  unfold rowPts slotPts
  iapply (Rounds.wp_send_pointsTo 𝒱₀ ER (Rd m ρ) (c : Thread nD τ) none (κ₁ := K (c, some (0, up r))) (κ₂ := K (fwd c r, some (1, up r)))
      (r₁ := 0) (r₂ := 0) (d₁ := 0) (d₂ := 0) (fd := fd) (duty_mem m ρ c 0 r) (duty_mem m ρ (fwd c r) 1 r)
      () () N (slot_amount (up r) _) (amount_dma m ρ c 0 (up r) 0) (amount_dma m ρ (fwd c r) 1 (up r) 0) (osum (t1 c) (O3 c) rs) rfl (W := W)
      (by rw [show (Rd m ρ).payload (c, SemLoc.dma (dS 0 (up r))) 0 0 = rowPts m ρ c (down (up r)) from payload_cell m ρ c (some (0, up r)) 0, down_up]
          unfold rowPts; exact BI.Entails.refl _)
      (by rw [show (Rd m ρ).payload (fwd c r, SemLoc.dma (dS 1 (up r))) 0 0 = slotPts (fwd c r) (up r) (RS m ρ (fwd c r)) from payload_cell m ρ (fwd c r) (some (1, up r)) 0]
          unfold slotPts
          exact Entails.of_eq (pointsTo_congr (land1 m ρ c r fd))))
    $$ [HO Ht0 Ht1 Hrow Hs]
  · isplitr; · iapply (rec_inv m ρ K (c, some (0, up r))); iexact HR
    isplitr; · iapply (rec_inv m ρ K (fwd c r, some (1, up r))); iexact HR
    isplitl [Hrow]; · iexact Hrow
    isplitl [Hs]; · iexact Hs
    isplitl [HO]; · iexact HO
    isplitl [Ht0]; · iexact Ht0
    isplitr; · iapply (rec_reached m ρ K (c, some (0, up r))); iexact HR
    isplitl [Ht1]; · iexact Ht1
    iapply (rec_reached m ρ K (fwd c r, some (1, up r))); iexact HR
  iintro ⟨Hc, HO⟩
  iapply Hk
  isplitl [Hc]; · iexact Hc
  iexists W; iexact HO

/-- The second exchange's. -/
theorem wp_send2 (p : PG F) (Q : PUnit → sProp 𝕄) :
    iprop(records m ρ K
        ∗ (bigSep Finset.univ fun r : Fin 15 => iprop(dutyTok ER (dCell c 2 (up r)) 0 0 ∗ dutyTok ER (dCell (fwd c r) 3 (up r)) 0 0
            ∗ chunkPts m ρ c r ∗ ∃ f, outPts (F := F) (fwd c r) c f))
        ∗ owesE c (O3 c))
      ⊢ iprop(((bigSep Finset.univ (fun r : Fin 15 => (cred (tallyAt (dCell c 2 (up r)) () N) : sProp 𝕄)) ∗ owesE c 0) -∗ wpc c p Q)
          -∗ wpc c (loop (opSend2 c) rs15 p) Q) := by
  refine wp_loop_all c (opSend2 c) (records m ρ K) _ _ (fun rs => owesE c (osum (t3 c) 0 rs)) Q (fun r rs k => ?_) p
  unfold opSend2 owesE
  rw [devB_eq]
  unfold send2At
  iintro ⟨#HR, ⟨Ht2, Ht3, Hch, ⟨%fd, Hs⟩⟩, ⟨%W, HO⟩⟩ Hk
  unfold chunkPts outPts
  iapply (Rounds.wp_send_pointsTo 𝒱₀ ER (Rd m ρ) (c : Thread nD τ) none (κ₁ := K (c, some (2, up r))) (κ₂ := K (fwd c r, some (3, up r)))
      (r₁ := 0) (r₂ := 0) (d₁ := 0) (d₂ := 0) (fd := fd) (duty_mem m ρ c 2 r) (duty_mem m ρ (fwd c r) 3 r)
      () () N (out_amount c _) (amount_dma m ρ c 2 (up r) 0) (amount_dma m ρ (fwd c r) 3 (up r) 0) (osum (t3 c) 0 rs) rfl (W := W)
      (by rw [show (Rd m ρ).payload (c, SemLoc.dma (dS 2 (up r))) 0 0 = chunkPts m ρ c (down (up r)) from payload_cell m ρ c (some (2, up r)) 0, down_up]
          unfold chunkPts; exact BI.Entails.refl _)
      (by rw [show (Rd m ρ).payload (fwd c r, SemLoc.dma (dS 3 (up r))) 0 0 = outPts (fwd c r) (src (fwd c r) (up r)) (OUT m ρ) from payload_cell m ρ (fwd c r) (some (3, up r)) 0, src_fwd]
          unfold outPts
          exact Entails.of_eq (pointsTo_congr (land2 m ρ c fd))))
    $$ [HO Ht2 Ht3 Hch Hs]
  · isplitr; · iapply (rec_inv m ρ K (c, some (2, up r))); iexact HR
    isplitr; · iapply (rec_inv m ρ K (fwd c r, some (3, up r))); iexact HR
    isplitl [Hch]; · iexact Hch
    isplitl [Hs]; · iexact Hs
    isplitl [HO]; · iexact HO
    isplitl [Ht2]; · iexact Ht2
    isplitr; · iapply (rec_reached m ρ K (c, some (2, up r))); iexact HR
    isplitl [Ht3]; · iexact Ht3
    iapply (rec_reached m ρ K (fwd c r, some (3, up r))); iexact HR
  iintro ⟨Hc, HO⟩
  iapply Hk
  isplitl [Hc]; · iexact Hc
  iexists W; iexact HO

/-- The waits of one array, for any operation that waits for a block's credit on its cells: each gives the cell's
    payload, and the counter back at zero. -/
theorem wp_waits (j : Fin 4) (f : Fin 15 → P1 F)
    (hf : ∀ (r : Fin 15) (Kt : PUnit → sProp 𝕄), wpE (defs₀ (F := F)) 𝒱₀ (c : Thread nD τ) none Set.univ (f r) Kt
      = waitSpec (c : Thread nD τ) Set.univ (.dma (dS j (up r))) N Kt)
    (O : CellTallies nD τ sig Unit) (hO : ∀ r : Fin 15, lvls ⊢ (MayWait (c : Thread nD τ) (.dma (dS j (up r))) () O : sProp 𝕄)) (p : PG F) (Q : PUnit → sProp 𝕄) :
    iprop(records m ρ K
        ∗ (bigSep Finset.univ fun r : Fin 15 => iprop(cred (tallyAt (dCell c j (up r)) () N) ∗ atPos ER (dCell c j (up r)) 0 ∅ 0))
        ∗ owesE c O)
      ⊢ iprop(((bigSep Finset.univ (fun r : Fin 15 => iprop(payAt m ρ c (some (j, up r)) 0 ∗ semVal (dCell c j (up r)) 0)) ∗ owesE c O) -∗ wpc c p Q)
          -∗ wpc c (loop f rs15 p) Q) := by
  refine wp_loop_all c f (records m ρ K) _ _ (fun _ => owesE c O) Q (fun r rs k => ?_) p
  have hM : records m ρ K ⊢ MayWait (c : Thread nD τ) (.dma (dS j (up r))) () O := (rec_lev m ρ K).trans (hO r)
  unfold owesE
  iintro ⟨#HR, ⟨Hc, Hat⟩, ⟨%W, HO⟩⟩ Hk
  ihave #HM := hM $$ HR
  iapply (Rounds.wp_wait_rest_token 𝒱₀ ER (Rd m ρ) (c : Thread nD τ) none (κ := K (c, some (j, up r)))
      (hf r) (Set.mem_univ _) () (O := O) (W := W) (R := 0) (m := 0) (T := ∅) (by rw [Nat.zero_add]; exact (expect_dma m ρ c j r).symm)) $$ [Hc HO Hat]
  · isplitr; · iapply (rec_inv m ρ K (c, some (j, up r))); iexact HR
    isplitl [Hc]; · iexact Hc
    isplitl [HO]; · iexact HO
    isplitr; · iexact HM
    iexact Hat
  iintro ⟨HO, Hat, -, Hpay⟩
  imod (Rounds.cell_close ER (Rd m ρ) (Set.mem_univ (K (c, some (j, up r)))) (fun h => h) (R := 0 + 1) (duties_later m ρ (dCell c j (up r)))) $$ [Hat] with Hz
  · isplitr; · iapply (rec_inv m ρ K (c, some (j, up r))); iexact HR
    iexact Hat
  ihave Hp := (Entails.of_eq (rest_dma m ρ c j r)) $$ Hpay
  iapply Hk
  isplitl [Hp Hz]
  · isplitl [Hp] <;> iassumption
  iexists (insert (SemLoc.dma (dS j (up r)), ()) W); iexact HO

theorem mayWait_zero (sm : SemLoc sig) : (lvls : sProp 𝕄) ⊢ MayWait (c : Thread nD τ) sm () 0 := by
  rw [MayWait_zero]; iintro -; iempintro

end Loops

end Cert.KProof
-- ==== Proof.Body.lean ====
/-
# 01_k — `Body`: the body on one device

`sound_body` runs the body from the device's holdings at the start of the kernel to those at its end, phase by phase.
-/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Ring (pointsTo_blocks pointsTo_blocks_join_exists)
open Idealize.ShloMosaic.Transfers (shareTok shareDrop pointsTo_toks_split pointsTo_toks_join)

variable {F : FTy → Type} [FloatOps F]

local notation "𝕄" => MT nD τ sig Unit (Elt F) ℕ UU ℕ

variable (m : (ℓ : Loc nD τ sig) → Buf (Elt F) ℓ) (ρ : Dev nD → PrngReg)

/-! ## The buffers cut into their parts, and put together -/

section Parts
variable (c : Dev nD)

theorem slotPts_eq (b : Fin 16) (f : (cc0_scratch1 : Ref sig .tc).ty.Contents (Elt F)) :
    slotPts c b f = ((c : Thread nD τ).loc cc0_scratch1 ↦[(slotR b).set]{fullShare} f : sProp 𝕄) := by
  unfold slotPts; rw [slot_set]
theorem outPts_eq (d : Dev nD) (f : (cc0_stg1_0 : Ref sig .tc).ty.Contents (Elt F)) :
    outPts c d f = ((c : Thread nD τ).loc cc0_stg1_0 ↦[(rowsR d).set]{fullShare} f : sProp 𝕄) := by
  unfold outPts; rw [out_set]
theorem rowPts_eq (r : Fin 15) :
    rowPts m ρ c r = ((c : Thread nD τ).loc cc0_scratch0 ↦[(rowsR (fwd c r)).set]{fullShare} (LO m ρ c) : sProp 𝕄) := by
  unfold rowPts; rw [row_set]

theorem slots_split (f : (cc0_scratch1 : Ref sig .tc).ty.Contents (Elt F)) :
    ((c : Thread nD τ).loc cc0_scratch1 ↦{fullShare} f : sProp 𝕄) = iprop(slotPts c 0 f ∗ bigSep Finset.univ fun r => slotPts c (up r) f) := by
  refine (pointsTo_blocks (ℓ := (c : Thread nD τ).loc cc0_scratch1) (fun b : Fin 16 => (slotR b).set) slot_disjoint slot_cover f).trans ?_
  rw [bigSep_slots]
  simp only [slotPts_eq]
theorem slots_join (f g : (cc0_scratch1 : Ref sig .tc).ty.Contents (Elt F)) :
    iprop(slotPts c 0 f ∗ bigSep Finset.univ fun r => slotPts c (up r) g) ⊢ (iprop(∃ h, (c : Thread nD τ).loc cc0_scratch1 ↦{fullShare} h) : sProp 𝕄) := by
  refine BI.Entails.trans ?_ (pointsTo_blocks_join_exists (ℓ := (c : Thread nD τ).loc cc0_scratch1) (fun b : Fin 16 => (slotR b).set) slot_disjoint slot_cover f)
  rw [bigSep_slots]
  simp only [slotPts_eq]
  have h : ∀ S (k : (cc0_scratch1 : Ref sig .tc).ty.Contents (Elt F)), ((c : Thread nD τ).loc cc0_scratch1 ↦[S]{fullShare} k : sProp 𝕄)
      ⊢ iprop(∃ k, (c : Thread nD τ).loc cc0_scratch1 ↦[S]{fullShare} k) := fun S k => by iintro H; iexists k; iexact H
  exact BIClass.sep_mono (h _ f) (bigSep_mono fun r _ => h _ g)

theorem outs_split (f : (cc0_stg1_0 : Ref sig .tc).ty.Contents (Elt F)) :
    ((c : Thread nD τ).loc cc0_stg1_0 ↦{fullShare} f : sProp 𝕄) = iprop(outPts c c f ∗ bigSep Finset.univ fun r => outPts c (fwd c r) f) := by
  refine (pointsTo_blocks (ℓ := (c : Thread nD τ).loc cc0_stg1_0) (fun d : Dev nD => (rowsR d).set) rows_disjoint rows_cover f).trans ?_
  rw [bigSep_ahead c]
  simp only [outPts_eq]
theorem outs_join (f : (cc0_stg1_0 : Ref sig .tc).ty.Contents (Elt F)) :
    iprop(outPts c c f ∗ bigSep Finset.univ fun r => outPts c (src c (up r)) f) = ((c : Thread nD τ).loc cc0_stg1_0 ↦{fullShare} f : sProp 𝕄) := by
  refine Eq.trans ?_ (pointsTo_blocks (ℓ := (c : Thread nD τ).loc cc0_stg1_0) (fun d : Dev nD => (rowsR d).set) rows_disjoint rows_cover f).symm
  rw [bigSep_behind c]
  simp only [outPts_eq, src_up]

/-- The device's own rows of the copy. -/
def ownRows : sProp 𝕄 := (c : Thread nD τ).loc cc0_scratch0 ↦[(rowsR c).set]{fullShare} (LO m ρ c)
theorem rows_split :
    ((c : Thread nD τ).loc cc0_scratch0 ↦{fullShare} (LO m ρ c) : sProp 𝕄) = iprop(ownRows m ρ c ∗ bigSep Finset.univ fun r => rowPts m ρ c r) := by
  refine (pointsTo_blocks (ℓ := (c : Thread nD τ).loc cc0_scratch0) (fun d : Dev nD => (rowsR d).set) rows_disjoint rows_cover (LO m ρ c)).trans ?_
  rw [bigSep_ahead c]
  simp only [rowPts_eq]; rfl

/-- What is left of the summed block beside the shares the transfers read. -/
def chunkRest : sProp 𝕄 := (c : Thread nD τ).loc cc0_scratch2 ↦{shareDrop fullShare 15} (CH m ρ c)
theorem chunkPts_eq (r : Fin 15) : chunkPts m ρ c r = ((c : Thread nD τ).loc cc0_scratch2 ↦{shareTok fullShare 15 r} (CH m ρ c) : sProp 𝕄) := by
  unfold chunkPts; rw [View.set_whole]
theorem chunk_split : ((c : Thread nD τ).loc cc0_scratch2 ↦{fullShare} (CH m ρ c) : sProp 𝕄)
    ⊢ iprop(chunkRest m ρ c ∗ bigSep Finset.univ fun r => chunkPts m ρ c r) := by
  simp only [chunkPts_eq]; exact pointsTo_toks_split fullShare 15
theorem chunk_join : iprop(chunkRest m ρ c ∗ bigSep Finset.univ fun r => chunkPts m ρ c r)
    ⊢ ((c : Thread nD τ).loc cc0_scratch2 ↦{fullShare} (CH m ρ c) : sProp 𝕄) := by
  simp only [chunkPts_eq]; exact pointsTo_toks_join fullShare 15

/-- The slots the distances use, held as one part of the landing buffer. -/
def landedSet : Finset (cc0_scratch1 : Ref sig .tc).ty.Idx := Finset.univ.biUnion fun r : Fin 15 => (slotR (up r)).set
theorem landed_eq (f : (cc0_scratch1 : Ref sig .tc).ty.Contents (Elt F)) :
    (bigSep Finset.univ fun r => slotPts c (up r) f) = ((c : Thread nD τ).loc cc0_scratch1 ↦[landedSet]{fullShare} f : sProp 𝕄) := by
  unfold landedSet
  refine Eq.trans ?_ (pointsTo_biUnion (ℓ := (c : Thread nD τ).loc cc0_scratch1) Finset.univ (fun r : Fin 15 => (slotR (up r)).set) fun r _ r' _ h => slot_disjoint _ _ fun e => h (by rw [← down_up r, e, down_up])).symm
  simp only [slotPts_eq]
theorem rR_subset : rR.set ⊆ landedSet := fun i hi => by
  have h := Rect.mem_set_unit.mp hi
  have h0 : 1 ≤ (i 0).val := (h 0).1
  have h16 : (i 0).val < 16 := (i 0).isLt
  refine Finset.mem_biUnion.mpr ⟨⟨(i 0).val - 1, by omega⟩, Finset.mem_univ _, Rect.mem_set_unit.mpr fun a => ?_⟩
  match a with
  | ⟨0, _⟩ =>
    show 1 + ((i 0).val - 1) ≤ (i 0).val ∧ (i 0).val < 1 + ((i 0).val - 1) + 1
    omega
  | ⟨1, _⟩ => exact ⟨Nat.zero_le _, by have := (i 1).isLt; show (i 1).val < 0 + 16; rw [Nat.zero_add]; exact this⟩
  | ⟨2, _⟩ => exact ⟨Nat.zero_le _, by have := (i 2).isLt; show (i 2).val < 0 + 256; rw [Nat.zero_add]; exact this⟩

end Parts

/-! ## Reads and writes through whole buffers -/

theorem hz2 : (![0, 0] : Fin 2 → Nat) = fun _ => 0 := funext fun a => by fin_cases a <;> rfl
theorem read_x (f : (cc0_stg0_0 : Ref sig .tc).ty.Contents (Elt F)) : (xM : Memref sig .tc .vmem S256x256 .bf16).view.readAt (Elt F) rA.toLoadRect f = f :=
  Memref.readAt_unit_zero (Elt F) cc0_stg0_0 hz2 _ f
theorem read_k (f : (cc0_scratch2 : Ref sig .tc).ty.Contents (Elt F)) : (kM : Memref sig .tc .vmem S16x256 .bf16).view.readAt (Elt F) rK.toLoadRect f = f :=
  Memref.readAt_unit_zero (Elt F) cc0_scratch2 hz2 _ f
theorem write_l (f w : (cc0_scratch0 : Ref sig .tc).ty.Contents (Elt F)) :
    ((lM : Memref sig .tc .vmem S256x256 .bf16).access rA : View sig .tc _ _ _).write (Elt F) f w Finset.univ = w :=
  Memref.write_access_unit_zero_univ (Elt F) cc0_scratch0 hz2 _ f w
theorem write_k (f w : (cc0_scratch2 : Ref sig .tc).ty.Contents (Elt F)) :
    ((kM : Memref sig .tc .vmem S16x256 .bf16).access rK : View sig .tc _ _ _).write (Elt F) f w Finset.univ = w :=
  Memref.write_access_unit_zero_univ (Elt F) cc0_scratch2 hz2 _ f w

/-! ## The phases -/

section Phases
variable (K : Dev nD × CI → ℕ) (c : Dev nD)

/-- Before, and after, the waits on array `j`. -/
def waitPre (j : Fin 4) : sProp 𝕄 :=
  bigSep Finset.univ fun r : Fin 15 => iprop(cred (tallyAt (dCell c j (up r)) () N) ∗ atPos ER (dCell c j (up r)) 0 ∅ 0)
def waitPost (j : Fin 4) : sProp 𝕄 :=
  bigSep Finset.univ fun r : Fin 15 => iprop(payAt m ρ c (some (j, up r)) 0 ∗ semVal (dCell c j (up r)) 0)

theorem waitPost_eq (j : Fin 4) : waitPost m ρ c j
    = iprop((bigSep Finset.univ fun r : Fin 15 => payAt m ρ c (some (j, up r)) 0) ∗ bigSep Finset.univ fun r : Fin 15 => semVal (dCell c j (up r)) 0) :=
  bigSep_sep' _ _ _

theorem barPays_eq : bigSep Finset.univ (barPay (F := F) c)
    = iprop((bigSep Finset.univ fun r : Fin 15 => iprop(∃ f, slotPts (F := F) (fwd c r) (up r) f))
      ∗ bigSep Finset.univ fun r : Fin 15 => iprop(∃ f, outPts (F := F) (fwd c r) c f)) :=
  bigSep_sep' _ _ _

theorem rowPts_back : (bigSep Finset.univ fun r : Fin 15 => payAt m ρ c (some (0, up r)) 0) = bigSep Finset.univ fun r => rowPts m ρ c r :=
  bigSep_congr fun r _ => congrArg (rowPts m ρ c) (down_up r)
theorem chunkPts_back : (bigSep Finset.univ fun r : Fin 15 => payAt m ρ c (some (2, up r)) 0) = bigSep Finset.univ fun r => chunkPts m ρ c r :=
  bigSep_congr fun r _ => congrArg (chunkPts m ρ c) (down_up r)

theorem wp_recv1 (p : PG F) (Q : PUnit → sProp 𝕄) :
    iprop(records m ρ K ∗ waitPre c 1 ∗ owesE c (O3 c))
      ⊢ iprop(((waitPost m ρ c 1 ∗ owesE c (O3 c)) -∗ wpc c p Q) -∗ wpc c (loop (opRecv1 c) rs15 p) Q) :=
  wp_waits m ρ K c 1 (opRecv1 c) (fun r Kt => rfl) (O3 c) (fun r => lvls_open (mayWait_recv1 c r)) p Q
theorem wp_recv2 (p : PG F) (Q : PUnit → sProp 𝕄) :
    iprop(records m ρ K ∗ waitPre c 3 ∗ owesE c 0)
      ⊢ iprop(((waitPost m ρ c 3 ∗ owesE c 0) -∗ wpc c p Q) -∗ wpc c (loop (opRecv2 c) rs15 p) Q) :=
  wp_waits m ρ K c 3 (opRecv2 c) (fun r Kt => rfl) 0 (fun r => mayWait_zero c _) p Q
theorem wp_sent1 (p : PG F) (Q : PUnit → sProp 𝕄) :
    iprop(records m ρ K ∗ waitPre c 0 ∗ owesE c 0)
      ⊢ iprop(((waitPost m ρ c 0 ∗ owesE c 0) -∗ wpc c p Q) -∗ wpc c (loop (opSent1 c) rs15 p) Q) :=
  wp_waits m ρ K c 0 (opSent1 c) (fun r Kt => rfl) 0 (fun r => mayWait_zero c _) p Q
theorem wp_sent2 (p : PG F) (Q : PUnit → sProp 𝕄) :
    iprop(records m ρ K ∗ waitPre c 2 ∗ owesE c 0)
      ⊢ iprop(((waitPost m ρ c 2 ∗ owesE c 0) -∗ wpc c p Q) -∗ wpc c (loop (opSent2 c) rs15 p) Q) :=
  wp_waits m ρ K c 2 (opSent2 c) (fun r Kt => rfl) 0 (fun r => mayWait_zero c _) p Q

/-- The last part: the own block into the result, and the waits. -/
theorem wp_tail (Q : PUnit → sProp 𝕄) :
    iprop(records m ρ K ∗ chunkRest m ρ c ∗ (∃ f, outPts (F := F) c c f) ∗ waitPre c 3 ∗ waitPre c 0 ∗ waitPre c 2 ∗ owesE c 0)
      ⊢ iprop(((chunkRest m ρ c ∗ outPts c c (OUT m ρ) ∗ waitPost m ρ c 3 ∗ waitPost m ρ c 0 ∗ waitPost m ρ c 2 ∗ owesE c 0) -∗ |={Set.univ}=> Q ⟨⟩)
        -∗ wpc c (tailP c) Q) := by
  unfold tailP
  iintro ⟨#HR, Hch, ⟨%f, Hout⟩, H3, H0, H2, HO⟩ Hk
  unfold chunkRest
  iapply (wp_load 𝒱₀ (c : Thread nD τ) none Set.univ (m := kM) (Finset.subset_univ _)) $$ Hch; iintro Hch
  rw [read_k]
  unfold outPts
  iapply (wp_load 𝒱₀ (c : Thread nD τ) none Set.univ (m := oM) (by rw [out_set, ← rX_set c]; exact (Finset.map_refl (s := (rX c).set)).le)) $$ Hout; iintro Hout
  iapply (wp_store 𝒱₀ (c : Thread nD τ) none Set.univ (m := oM) (r := rX c) (Mk := Finset.univ)
    (by rw [out_set, ← rX_set c]; exact (View.set_slice_whole _ _).le)) $$ Hout; iintro Hout
  ihave Hout := (Entails.of_eq (pointsTo_congr (land_own m ρ c f))) $$ Hout
  iapply (wp_recv2 m ρ K c) $$ [H3 HO]
  · isplitr; · iexact HR
    isplitl [H3] <;> iassumption
  iintro ⟨H3, HO⟩
  iapply (wp_sent1 m ρ K c) $$ [H0 HO]
  · isplitr; · iexact HR
    isplitl [H0] <;> iassumption
  iintro ⟨H0, HO⟩
  iapply (wp_sent2 m ρ K c) $$ [H2 HO]
  · isplitr; · iexact HR
    isplitl [H2] <;> iassumption
  iintro ⟨H2, HO⟩
  unfold wpc
  rw [wp_ret]
  iapply Hk
  isplitl [Hch]; · iexact Hch
  isplitl [Hout]; · iexact Hout
  isplitl [H3]; · iexact H3
  isplitl [H0]; · iexact H0
  isplitl [H2]; · iexact H2
  iexact HO

/-- The middle part: the landed blocks summed, the sum sent, and the rest. -/
theorem wp_mid (Q : PUnit → sProp 𝕄) :
    iprop(records m ρ K ∗ ((c : Thread nD τ).loc cc0_stg0_0 ↦{fullShare} (xstg m ρ c))
        ∗ (bigSep Finset.univ fun r => slotPts c (up r) (RS m ρ c))
        ∗ (∃ f, (c : Thread nD τ).loc cc0_scratch2 ↦{fullShare} f)
        ∗ (bigSep Finset.univ fun r : Fin 15 => iprop(dutyTok ER (dCell c 2 (up r)) 0 0 ∗ dutyTok ER (dCell (fwd c r) 3 (up r)) 0 0
            ∗ ∃ f, outPts (F := F) (fwd c r) c f)) ∗ owesE c (O3 c))
      ⊢ iprop(((((c : Thread nD τ).loc cc0_stg0_0 ↦{fullShare} (xstg m ρ c))
          ∗ (bigSep Finset.univ fun r => slotPts c (up r) (RS m ρ c)) ∗ chunkRest m ρ c
          ∗ (bigSep Finset.univ fun r : Fin 15 => cred (tallyAt (dCell c 2 (up r)) () N)) ∗ owesE c 0) -∗ wpc c (tailP c) Q)
        -∗ wpc c (midP c) Q) := by
  unfold midP
  iintro ⟨#HR, Hx, Hr, ⟨%fk, Hk⟩, Htok, HO⟩ Hkk
  iapply (wp_load 𝒱₀ (c : Thread nD τ) none Set.univ (m := xM) (Finset.subset_univ _)) $$ Hx; iintro Hx
  ihave Hr := (Entails.of_eq (landed_eq c (RS m ρ c))) $$ Hr
  iapply (wp_load 𝒱₀ (c : Thread nD τ) none Set.univ (m := rM) ((Finset.map_refl (s := rR.set)).le.trans rR_subset)) $$ Hr; iintro Hr
  iapply (wp_load 𝒱₀ (c : Thread nD τ) none Set.univ (m := kM) (Finset.subset_univ _)) $$ Hk; iintro Hk
  iapply (wp_store 𝒱₀ (c : Thread nD τ) none Set.univ (m := kM) (r := rK) (Mk := Finset.univ) (Finset.subset_univ _)) $$ Hk; iintro Hk
  rw [write_k]
  ihave Hk : iprop((c : Thread nD τ).loc cc0_scratch2 ↦{fullShare} (CH m ρ c)) $$ [Hk]
  · iexact Hk
  ihave Hk := (chunk_split m ρ c) $$ Hk
  icases Hk with ⟨Hkr, Hks⟩
  have h2 : iprop((bigSep Finset.univ fun r : Fin 15 => iprop(dutyTok ER (dCell c 2 (up r)) 0 0 ∗ dutyTok ER (dCell (fwd c r) 3 (up r)) 0 0
            ∗ ∃ f, outPts (F := F) (fwd c r) c f)) ∗ (bigSep Finset.univ fun r => chunkPts m ρ c r))
      ⊢ (bigSep Finset.univ fun r : Fin 15 => iprop(dutyTok ER (dCell c 2 (up r)) 0 0 ∗ dutyTok ER (dCell (fwd c r) 3 (up r)) 0 0
            ∗ chunkPts m ρ c r ∗ ∃ f, outPts (F := F) (fwd c r) c f) : sProp 𝕄) := by
    rw [← bigSep_sep']
    refine bigSep_mono fun r _ => ?_
    show (iprop(_ ∗ _) : sProp 𝕄) ⊢ _
    iintro ⟨⟨Ha, Hb, Hc⟩, Hd⟩
    isplitl [Ha]; · iexact Ha
    isplitl [Hb]; · iexact Hb
    isplitl [Hd] <;> iassumption
  iapply (wp_send2 m ρ K c) $$ [Htok Hks HO]
  · isplitr; · iexact HR
    isplitl [Htok Hks]
    · iapply h2; isplitl [Htok] <;> iassumption
    iexact HO
  iintro ⟨HC, HO⟩
  iapply Hkk
  isplitl [Hx]; · iexact Hx
  isplitl [Hr]; · iapply (Entails.of_eq (landed_eq c (RS m ρ c)).symm); iexact Hr
  isplitl [Hkr]; · iexact Hkr
  isplitl [HC] <;> iassumption

/-- What the device holds of the protocol when the kernel starts: the cells' records, its own cells at round 0, the
    duties it performs, and the credits for what the others perform on it. -/
def pays : sProp 𝕄 :=
  iprop((bigSep Finset.univ fun r : Fin 15 => dutyTok ER (barCell (fwd c r)) 0 r.rev)
    ∗ (bigSep Finset.univ fun r : Fin 15 => dutyTok ER (dCell c 0 (up r)) 0 0)
    ∗ (bigSep Finset.univ fun r : Fin 15 => dutyTok ER (dCell (fwd c r) 1 (up r)) 0 0)
    ∗ (bigSep Finset.univ fun r : Fin 15 => dutyTok ER (dCell c 2 (up r)) 0 0)
    ∗ (bigSep Finset.univ fun r : Fin 15 => dutyTok ER (dCell (fwd c r) 3 (up r)) 0 0))
def ghost : sProp 𝕄 :=
  iprop(cellsRec m ρ K ∗ (bigSep Finset.univ fun i : CI => atPos ER (kcell (c, i)) 0 ∅ 0) ∗ pays (F := F) c)
def credits : sProp 𝕄 :=
  iprop(cred (tallyAt (barCell c) () 15) ∗ (bigSep Finset.univ fun r : Fin 15 => cred (tallyAt (dCell c 1 (up r)) () N))
    ∗ (bigSep Finset.univ fun r : Fin 15 => cred (tallyAt (dCell c 3 (up r)) () N)))
def start : sProp 𝕄 := iprop((∃ K, ghost m ρ K c) ∗ credits (F := F) c ∗ lvls (F := F))

/-- A conjunction over a device's cells, by array: its element at 0, and the ones the distances use. -/
theorem bigSep_CI (Φ : CI → sProp 𝕄) :
    bigSep Finset.univ Φ = iprop(Φ none
      ∗ (Φ (some (0, 0)) ∗ bigSep Finset.univ fun r => Φ (some (0, up r)))
      ∗ (Φ (some (1, 0)) ∗ bigSep Finset.univ fun r => Φ (some (1, up r)))
      ∗ (Φ (some (2, 0)) ∗ bigSep Finset.univ fun r => Φ (some (2, up r)))
      ∗ (Φ (some (3, 0)) ∗ bigSep Finset.univ fun r => Φ (some (3, up r)))) := by
  rw [bigSep_opt, bigSep_univ_prod]
  have h4 : ∀ Ψ : Fin 4 → sProp 𝕄, bigSep Finset.univ Ψ = iprop(Ψ 0 ∗ Ψ 1 ∗ Ψ 2 ∗ Ψ 3) := fun Ψ =>
    bigSep_eq_bigSepL_of_eq [0, 1, 2, 3] (by decide) (by decide) Ψ
  rw [h4, bigSep_slots, bigSep_slots, bigSep_slots, bigSep_slots]

/-- A cell no duty of which is left closes at the count 0. -/
theorem close_unused (j : Fin 4) :
    iprop(records m ρ K ∗ atPos ER (dCell c j 0) 0 ∅ 0) ⊢ iprop(|={Set.univ}=> semVal (dCell c j 0) 0) := by
  iintro ⟨#HR, Hat⟩
  ihave #Hinv := (rec_inv m ρ K (c, some (j, 0))) $$ HR
  iapply (Rounds.cell_close ER (Rd m ρ) (Set.mem_univ (K (c, some (j, 0)))) (fun h => h) (R := 0) (duties_unused m ρ c j)) $$ [Hat]
  isplitr; · iexact Hinv
  iexact Hat

/-- The whole body on one device. -/
theorem wp_body (Q : PUnit → sProp 𝕄) :
    iprop(ghost m ρ K c ∗ credits (F := F) c ∗ lvls (F := F) ∗ owesE (F := F) c (O₀ c)
        ∗ ((c : Thread nD τ).loc cc0_stg0_0 ↦{fullShare} (xstg m ρ c))
        ∗ (∃ f, (c : Thread nD τ).loc cc0_stg1_0 ↦{fullShare} f)
        ∗ (∃ f, (c : Thread nD τ).loc cc0_scratch0 ↦{fullShare} f)
        ∗ (∃ f, (c : Thread nD τ).loc cc0_scratch1 ↦{fullShare} f)
        ∗ (∃ f, (c : Thread nD τ).loc cc0_scratch2 ↦{fullShare} f))
      ⊢ iprop(((((c : Thread nD τ).loc cc0_stg0_0 ↦{fullShare} (xstg m ρ c))
          ∗ ((c : Thread nD τ).loc cc0_stg1_0 ↦{fullShare} (OUT m ρ))
          ∗ (∃ f, (c : Thread nD τ).loc cc0_scratch0 ↦{fullShare} f)
          ∗ (∃ f, (c : Thread nD τ).loc cc0_scratch1 ↦{fullShare} f)
          ∗ (∃ f, (c : Thread nD τ).loc cc0_scratch2 ↦{fullShare} f)
          ∗ (bigSep Finset.univ fun i : CI => semVal (kcell (c, i)) 0) ∗ owesE c 0) -∗ |={Set.univ}=> Q ⟨⟩)
        -∗ wpc c (bodyP c) Q) := by
  unfold bodyP ghost
  iintro ⟨⟨#Hcr, Hat, Hpay⟩, Hcred, #Hlv, HO, Hx, ⟨%fo, Ho⟩, ⟨%fl, Hl⟩, ⟨%fr, Hr⟩, Hsum⟩ Hk
  ihave #HR : iprop(records m ρ K) $$ []
  · unfold records; isplitr; · iexact Hcr
    iexact Hlv
  ihave Hat := (Entails.of_eq (bigSep_CI fun i : CI => atPos ER (kcell (c, i)) 0 ∅ 0)) $$ Hat
  icases Hat with ⟨Hab, ⟨Ha00, Ha0⟩, ⟨Ha10, Ha1⟩, ⟨Ha20, Ha2⟩, ⟨Ha30, Ha3⟩⟩
  unfold pays credits
  icases Hpay with ⟨Htb, Ht0, Ht1, Ht2, Ht3⟩
  icases Hcred with ⟨Hcb, Hc1, Hc3⟩
  ihave Hr := (Entails.of_eq (slots_split c fr)) $$ Hr
  ihave Ho := (Entails.of_eq (outs_split c fo)) $$ Ho
  icases Hr with ⟨Hr0, Hrs⟩
  icases Ho with ⟨Hoc, Hos⟩
  have hsig : iprop((bigSep Finset.univ fun r : Fin 15 => dutyTok ER (barCell (fwd c r)) 0 r.rev)
        ∗ (bigSep Finset.univ fun r => slotPts c (up r) fr) ∗ (bigSep Finset.univ fun r => outPts c (fwd c r) fo))
      ⊢ (bigSep Finset.univ fun r : Fin 15 => iprop(dutyTok ER (barCell (fwd c r)) 0 r.rev
        ∗ (∃ f, slotPts (F := F) c (up r.rev) f) ∗ ∃ f, outPts (F := F) c (fwd c r) f) : sProp 𝕄) := by
    rw [bigSep_rev (fun r => slotPts c (up r) fr), ← bigSep_sep', ← bigSep_sep']
    refine bigSep_mono fun r _ => ?_
    show (iprop(_ ∗ _) : sProp 𝕄) ⊢ _
    iintro ⟨Ha, Hb, Hc⟩
    isplitl [Ha]; · iexact Ha
    isplitl [Hb]
    · iexists fr; iexact Hb
    · iexists fo; iexact Hc
  iapply (wp_sig m ρ K c) $$ [Htb Hrs Hos HO]
  · isplitr; · iexact HR
    isplitl [Htb Hrs Hos]
    · iapply hsig; isplitl [Htb]; · iexact Htb
      isplitl [Hrs] <;> iassumption
    iexact HO
  iintro ⟨-, HO⟩
  iapply (wp_load 𝒱₀ (c : Thread nD τ) none Set.univ (m := xM) (Finset.subset_univ _)) $$ Hx; iintro Hx
  rw [read_x]
  iapply (wp_load 𝒱₀ (c : Thread nD τ) none Set.univ (m := lM) (Finset.subset_univ _)) $$ Hl; iintro Hl
  iapply (wp_store 𝒱₀ (c : Thread nD τ) none Set.univ (m := lM) (r := rA) (Mk := Finset.univ) (Finset.subset_univ _)) $$ Hl; iintro Hl
  rw [write_l]
  -- the barrier
  ihave HO := (show owesE (F := F) c (O1 c) ⊢ iprop(∃ W, owes (c : Thread nD τ) (O1 c) W) from BI.Entails.refl _) $$ HO
  icases HO with ⟨%W, HO⟩
  ihave #Hib := (rec_inv m ρ K (c, none)) $$ HR
  ihave #Hmw := (lvls_open (mayWait_bar c)) $$ Hlv
  iapply (Rounds.wp_wait_rest_token 𝒱₀ ER (Rd m ρ) (c : Thread nD τ) none (κ := K (c, none))
      (wpE_semWait_eq 𝒱₀ (c : Thread nD τ) none Set.univ) (Set.mem_univ _) () (O := O1 c) (W := W) (R := 0) (m := 0) (T := ∅)
      (by rw [Nat.zero_add]; exact (expect_bar m ρ c).symm)) $$ [HO Hab Hcb]
  · isplitr; · iexact Hib
    isplitl [Hcb]; · iexact Hcb
    isplitl [HO]; · iexact HO
    isplitr; · iexact Hmw
    iexact Hab
  iintro ⟨HO, Hab, -, Hbar⟩
  imod (Rounds.cell_close ER (Rd m ρ) (Set.mem_univ (K (c, none))) (fun h => h) (R := 0 + 1) (duties_later m ρ (barCell c))) $$ [Hab] with Hzb
  · isplitr; · iexact Hib
    iexact Hab
  ihave Hbar := (Entails.of_eq (rest_bar m ρ c)) $$ Hbar
  ihave Hbar := (Entails.of_eq (barPays_eq c)) $$ Hbar
  icases Hbar with ⟨Hbs, Hbo⟩
  ihave HO : iprop(owesE (F := F) c (O1 c)) $$ [HO]
  · unfold owesE; iexists _; iexact HO
  -- the blocks sent
  ihave Hl : iprop((c : Thread nD τ).loc cc0_scratch0 ↦{fullShare} (LO m ρ c)) $$ [Hl]
  · iexact Hl
  ihave Hl := (Entails.of_eq (rows_split m ρ c)) $$ Hl
  icases Hl with ⟨Hlown, Hlrows⟩
  have hs1 : iprop((bigSep Finset.univ fun r : Fin 15 => dutyTok ER (dCell c 0 (up r)) 0 0)
        ∗ (bigSep Finset.univ fun r : Fin 15 => dutyTok ER (dCell (fwd c r) 1 (up r)) 0 0)
        ∗ (bigSep Finset.univ fun r => rowPts m ρ c r) ∗ (bigSep Finset.univ fun r => iprop(∃ f, slotPts (F := F) (fwd c r) (up r) f)))
      ⊢ (bigSep Finset.univ fun r : Fin 15 => iprop(dutyTok ER (dCell c 0 (up r)) 0 0 ∗ dutyTok ER (dCell (fwd c r) 1 (up r)) 0 0
        ∗ rowPts m ρ c r ∗ ∃ f, slotPts (F := F) (fwd c r) (up r) f) : sProp 𝕄) := by
    rw [← bigSep_sep', ← bigSep_sep', ← bigSep_sep']
  iapply (wp_send1 m ρ K c) $$ [Ht0 Ht1 Hlrows Hbs HO]
  · isplitr; · iexact HR
    isplitl [Ht0 Ht1 Hlrows Hbs]
    · iapply hs1; isplitl [Ht0]; · iexact Ht0
      isplitl [Ht1]; · iexact Ht1
      isplitl [Hlrows] <;> iassumption
    iexact HO
  iintro ⟨Hc0, HO⟩
  iapply (wp_recv1 m ρ K c) $$ [Hc1 Ha1 HO]
  · isplitr; · iexact HR
    isplitl [Hc1 Ha1]
    · unfold waitPre; rw [bigSep_sep']; isplitl [Hc1] <;> iassumption
    iexact HO
  iintro ⟨H1, HO⟩
  ihave H1 := (Entails.of_eq (waitPost_eq m ρ c 1)) $$ H1
  icases H1 with ⟨Hrs, Hz1⟩
  have hs2 : iprop((bigSep Finset.univ fun r : Fin 15 => dutyTok ER (dCell c 2 (up r)) 0 0)
        ∗ (bigSep Finset.univ fun r : Fin 15 => dutyTok ER (dCell (fwd c r) 3 (up r)) 0 0)
        ∗ (bigSep Finset.univ fun r => iprop(∃ f, outPts (F := F) (fwd c r) c f)))
      ⊢ (bigSep Finset.univ fun r : Fin 15 => iprop(dutyTok ER (dCell c 2 (up r)) 0 0 ∗ dutyTok ER (dCell (fwd c r) 3 (up r)) 0 0
        ∗ ∃ f, outPts (F := F) (fwd c r) c f) : sProp 𝕄) := by
    rw [← bigSep_sep', ← bigSep_sep']
  iapply (wp_mid m ρ K c) $$ [Hx Hrs Hsum Ht2 Ht3 Hbo HO]
  · isplitr; · iexact HR
    isplitl [Hx]; · iexact Hx
    isplitl [Hrs]; · iexact Hrs
    isplitl [Hsum]; · iexact Hsum
    isplitl [Ht2 Ht3 Hbo]
    · iapply hs2; isplitl [Ht2]; · iexact Ht2
      isplitl [Ht3] <;> iassumption
    iexact HO
  iintro ⟨Hx, Hrs, Hkr, Hc2, HO⟩
  -- the cells at element 0
  imod (close_unused m ρ K c 0) $$ [Ha00] with Hz00
  · isplitr; · iexact HR
    iexact Ha00
  imod (close_unused m ρ K c 1) $$ [Ha10] with Hz10
  · isplitr; · iexact HR
    iexact Ha10
  imod (close_unused m ρ K c 2) $$ [Ha20] with Hz20
  · isplitr; · iexact HR
    iexact Ha20
  imod (close_unused m ρ K c 3) $$ [Ha30] with Hz30
  · isplitr; · iexact HR
    iexact Ha30
  iapply (wp_tail m ρ K c) $$ [Hkr Hoc Hc3 Ha3 Hc0 Ha0 Hc2 Ha2 HO]
  · isplitr; · iexact HR
    isplitl [Hkr]; · iexact Hkr
    isplitl [Hoc]; · iexists fo; iexact Hoc
    isplitl [Hc3 Ha3]
    · unfold waitPre; rw [bigSep_sep']; isplitl [Hc3] <;> iassumption
    isplitl [Hc0 Ha0]
    · unfold waitPre; rw [bigSep_sep']; isplitl [Hc0] <;> iassumption
    isplitl [Hc2 Ha2]
    · unfold waitPre; rw [bigSep_sep']; isplitl [Hc2] <;> iassumption
    iexact HO
  iintro ⟨Hkr, Hoc, H3, H0, H2, HO⟩
  ihave H3 := (Entails.of_eq (waitPost_eq m ρ c 3)) $$ H3
  ihave H0 := (Entails.of_eq (waitPost_eq m ρ c 0)) $$ H0
  ihave H2 := (Entails.of_eq (waitPost_eq m ρ c 2)) $$ H2
  icases H3 with ⟨Hos, Hz3⟩
  icases H0 with ⟨Hlrows, Hz0⟩
  icases H2 with ⟨Hks, Hz2⟩
  iapply Hk
  isplitl [Hx]; · iexact Hx
  isplitl [Hoc Hos]
  · iapply (Entails.of_eq (outs_join c (OUT m ρ))); isplitl [Hoc]; · iexact Hoc
    iexact Hos
  isplitl [Hlown Hlrows]
  · iexists (LO m ρ c); iapply (Entails.of_eq (rows_split m ρ c).symm); isplitl [Hlown]; · iexact Hlown
    iapply (Entails.of_eq (rowPts_back m ρ c)); iexact Hlrows
  isplitl [Hr0 Hrs]
  · iapply (slots_join c fr (RS m ρ c)); isplitl [Hr0] <;> iassumption
  isplitl [Hkr Hks]
  · iexists (CH m ρ c); iapply (chunk_join m ρ c); isplitl [Hkr]; · iexact Hkr
    iapply (Entails.of_eq (chunkPts_back m ρ c)); iexact Hks
  isplitl [Hzb Hz00 Hz0 Hz10 Hz1 Hz20 Hz2 Hz30 Hz3]
  · rw [bigSep_CI]
    isplitl [Hzb]; · iexact Hzb
    isplitl [Hz00 Hz0]; · isplitl [Hz00] <;> iassumption
    isplitl [Hz10 Hz1]; · isplitl [Hz10] <;> iassumption
    isplitl [Hz20 Hz2]; · isplitl [Hz20] <;> iassumption
    isplitl [Hz30] <;> iassumption
  iexact HO

end Phases

end Cert.KProof
-- ==== Proof.Launch.lean ====
/-
# 01_k — `Launch`: the run of the whole program

The body's obligation from `wp_body`; the protocol's state allocated for all devices at once and each duty's token
dealt to the device that performs the duty; the launch credits; and the run: it ends, every device's result array holds
`OUT`, its argument what it held, and every counter is zero.
-/
module

public import proofs.«01_k».proof.Proof.Body
public import Idealize.ShloMosaic.Lib.Pipeline.CollectiveSegs

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

/-- The scratch buffers, at any contents. -/
def scratches (c : Dev nD) : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f))
/-- Beside the windows: before the point the protocol's start, after it the counters at zero. -/
def Φ₀ (c : Dev nD) : sProp 𝕄 := iprop(start m ρ c ∗ scratches (F := F) c)
def Φ₁ (c : Dev nD) : sProp 𝕄 := iprop(scratches (F := F) c ∗ bigSep Finset.univ fun i : CI => semVal (kcell (c, i)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => OUT m ρ
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem owns_staged (c : Dev nD) (b : Ref sig .tc) (X : b.ty.Contents (Elt F)) :
    (owns (c : Thread nD τ) (Memref.whole b) fullShare X : sProp 𝕄) = iprop(∃ f : Buf (Elt F) ((c : Thread nD τ).loc b), ⌜f = X⌝ ∗ ((c : Thread nD τ).loc b ↦{fullShare} f)) := by
  unfold owns; simp only [Memref.view_whole, View.read_whole, View.set_whole]

abbrev staged (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

set_option maxRecDepth 4000 in
def bodyPre (c : Dev nD) : sProp 𝕄 :=
  iprop(Φ₀ m ρ c ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))
set_option maxRecDepth 4000 in
def bodyPost (c : Dev nD) : sProp 𝕄 :=
  iprop(Φ₁ (F := F) c ∗ (dats m ρ 0 c).owesAt () t0_0.succ ∗ staged c cc0_stg0_0 (xstg m ρ c) ∗ staged c cc0_stg1_0 (OUT m ρ))

theorem sound_body (c : Dev nD) : bodyPre m ρ c ⊢ wpc c (bodyP c) (fun _ => bodyPost m ρ c) := by
  unfold bodyPre Φ₀ start scratches
  iintro ⟨⟨⟨⟨%K, Hg⟩, Hcr, #Hlv⟩, Hs0, Hs1, Hs2⟩, Ho, ⟨%d0, %g0, %hg0, Hx⟩, ⟨%d1, %g1, %hg1, Hout⟩⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  iapply (wp_body m ρ K c) $$ [Hg Hcr HO Hx Hout Hs0 Hs1 Hs2]
  · isplitl [Hg]; · iexact Hg
    isplitl [Hcr]; · iexact Hcr
    isplitr; · iexact Hlv
    isplitl [HO]; · unfold owesE; iexists W; iexact HO
    isplitl [Hx]; · iexact Hx
    isplitl [Hout]; · iexists g1; iexact Hout
    isplitl [Hs0]; · iexact Hs0
    isplitl [Hs1] <;> iassumption
  unfold owesE
  iintro ⟨Hx, Hout, Hs0, Hs1, Hs2, Hz, ⟨%W', HO⟩⟩
  imodintro
  unfold bodyPost Φ₁ scratches Dat.owesAt Pipeline.owesWithin
  rw [show (dats m ρ 0 c).owed t0_0.succ = 0 from rfl]
  isplitl [Hs0 Hs1 Hs2 Hz]
  · isplitl [Hs0 Hs1 Hs2]
    · isplitl [Hs0]; · iexact Hs0
      isplitl [Hs1] <;> iassumption
    iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

attribute [local irreducible] bodyP in
/-- The body, once it has read which device it runs on. -/
theorem wp_dev (c : Dev nD) (Q : PUnit → sProp 𝕄) :
    wp frame (wpE (defs₀ (F := F)) 𝒱₀ (c : Thread nD τ) none) Set.univ (.op .deviceId fun d => bodyP d) Q = wpc c (bodyP c) Q :=
  wp_deviceId 𝒱₀ (c : Thread nD τ) none Set.univ

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_staged]
  rw [show defs₀ (F := F) Proc.tc 0 (t0_0, cfg0.slots t0_0) = bodyAt0 (F := F) t0_0 from rfl, body_eq, wp_dev,
    show (dats m ρ 0 c).Φ t0_0.castSucc = Φ₀ m ρ c from rfl, show (dats m ρ 0 c).Φ t0_0.succ = Φ₁ (F := F) c from rfl,
    show (dats m ρ 0 c).after (0 : Fin 2) t0_0 = xstg m ρ c from rfl, show (dats m ρ 0 c).after (1 : Fin 2) t0_0 = OUT m ρ from rfl]
  have h := sound_body m ρ c
  unfold bodyPre bodyPost staged at h
  refine Eq.mp (congrArg₂ BIBase.Entails rfl ?_) h
  show wp _ _ _ _ _ = wp _ _ _ _ _
  refine congrArg (wp _ _ _ _) (funext fun x => ?_)
  exact congrArg₂ BIBase.sep rfl (congrArg₂ BIBase.sep rfl (congrArg₂ BIBase.sep rfl rfl))

/-! ## The launch -/

/-- The kernel's own semaphores: the four arrays. -/
abbrev osem : Fin 4 × Fin 16 → SemLoc sig := fun p => .dma (dS p.1 p.2)

theorem csem_injective : Function.Injective csem := fun i i' h => Option.some.inj (by rw [← dec_csem i, ← dec_csem i', h])
theorem kcell_injective : Function.Injective (kcell : Dev nD × CI → GSem nD τ sig) := by
  rintro ⟨c, i⟩ ⟨c', i'⟩ h
  have h1 : c = c' := congrArg (fun g : GSem nD τ sig => g.1.1) h
  have h2 : i = i' := csem_injective (congrArg Prod.snd h)
  rw [h1, h2]

theorem ownSemFacts : Pipeline.OwnSemFacts cfg0.spec osem where
  isScoped := by decide
  inj := fun p p' h => Option.some.inj (csem_injective (a₁ := some p) (a₂ := some p') h)
  disj := by decide

theorem share_eq (c : Dev nD) (w : Fin cfg0.W) : (dats m ρ 0 c).share w = fullShare := by unfold Dat.share; split <;> rfl

def allCells : Finset (GSem nD τ sig) := Finset.univ.map ⟨kcell, kcell_injective⟩

/-- The duties of a device's cells: at each distance the barrier's, and each array's. -/
abbrev dcell (r : Fin 15) : Option (Fin 4) → CI
  | none => none
  | some j => some (j, up r)
abbrev dnum (r : Fin 15) : Option (Fin 4) → Fin 15
  | none => r
  | some _ => 0
abbrev tokOf (x : Dev nD × (Fin 15 × Option (Fin 4))) : GSem nD τ sig × ℕ × Fin 15 := (kcell (x.1, dcell x.2.1 x.2.2), 0, dnum x.2.1 x.2.2)
theorem duty_injective : ∀ r r' (o o' : Option (Fin 4)), dcell r o = dcell r' o' → dnum r o = dnum r' o' → (r, o) = (r', o')
  | r, r', none, none, _, h => by rw [show r = r' from h]
  | r, r', some j, some j', h, _ => by
    have h1 := Option.some.inj h
    rw [show j = j' from congrArg Prod.fst h1, show r = r' by rw [← down_up r, show up r = up r' from congrArg Prod.snd h1, down_up]]
theorem tokOf_injective : Function.Injective tokOf := by
  rintro ⟨c, r, o⟩ ⟨c', r', o'⟩ h
  have h1 := kcell_injective (congrArg Prod.fst h)
  rw [show c = c' from congrArg Prod.fst h1, duty_injective r r' o o' (congrArg Prod.snd h1) (congrArg (fun x => x.2.2) h)]
def allToks : Finset (GSem nD τ sig × ℕ × Fin 15) := Finset.univ.map ⟨tokOf, tokOf_injective⟩

def u₀ : UU :=
  (initOf (Pipeline.cells cfgs cellOf_inj) (Pipeline.launchToks cfgs cellOf_inj), initOf allCells allToks)

/-- The tokens of the duties on device `c`'s own cells. -/
def toks (c : Dev nD) : sProp 𝕄 :=
  iprop((bigSep Finset.univ fun r : Fin 15 => dutyTok ER (barCell c) 0 r)
    ∗ (bigSep Finset.univ fun r : Fin 15 => dutyTok ER (dCell c 0 (up r)) 0 0)
    ∗ (bigSep Finset.univ fun r : Fin 15 => dutyTok ER (dCell c 1 (up r)) 0 0)
    ∗ (bigSep Finset.univ fun r : Fin 15 => dutyTok ER (dCell c 2 (up r)) 0 0)
    ∗ (bigSep Finset.univ fun r : Fin 15 => dutyTok ER (dCell c 3 (up r)) 0 0))

/-- What the launch deals device `c`, and what the common step makes of it. -/
def G (c : Dev nD) : sProp 𝕄 :=
  iprop((bigSep Finset.univ fun i : CI => roundState ER (Rd m ρ) (kcell (c, i)) 0)
    ∗ (bigSep Finset.univ fun i : CI => iprop(atPos ER (kcell (c, i)) 0 ∅ 0 ∗ reached ER (kcell (c, i)) 0)) ∗ toks c)
def G' (c : Dev nD) : sProp 𝕄 := iprop(∃ K, ghost m ρ K c)

theorem bigSep_four (Ψ : Fin 4 → sProp 𝕄) : bigSep Finset.univ Ψ = iprop(Ψ 0 ∗ Ψ 1 ∗ Ψ 2 ∗ Ψ 3) :=
  bigSep_univ_eq_bigSepL [0, 1, 2, 3] (by decide) (by decide) Ψ

theorem toks_eq (c : Dev nD) :
    (bigSep Finset.univ fun x : Fin 15 × Option (Fin 4) => (dutyTok ER (kcell (c, dcell x.1 x.2)) 0 (dnum x.1 x.2) : sProp 𝕄)) = toks c := by
  unfold toks
  rw [bigSep_univ_prod, ← bigSep_sep', ← bigSep_sep', ← bigSep_sep', ← bigSep_sep']
  exact bigSep_congr fun r _ => by rw [bigSep_opt, bigSep_four]

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch's counters are those of the device's cells. -/
theorem unscopedSems0_eq (c : Dev nD) : (unscopedSems0 c : sProp 𝕄) = semVal (barCell c) 0 := by
  unfold unscopedSems0; rw [bigSep_eq_bigSepL_of_eq [SemLoc.reg barS] (by decide) (by decide)]; rfl
theorem sems0_eq (c : Dev nD) :
    (bigSep Finset.univ fun i : CI => semVal (kcell (c, i)) 0 : sProp 𝕄)
      = iprop(unscopedSems0 c ∗ Pipeline.ownSems0 (Ix := Unit) (Name := ℕ) (U := UU) (Lvl := ℕ) (Val := Elt F) (τ := τ) osem c) := by
  rw [unscopedSems0_eq, bigSep_opt]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (Rd m ρ) κ (kcell (c, i))))
          ∗ (bigSep Finset.univ fun i => iprop(atPos ER (kcell (c, i)) 0 ∅ 0 ∗ reached ER (kcell (c, i)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun i : CI => semVal (kcell (c, i)) 0) ∗ bigSep Finset.univ fun i : CI => roundState ER (Rd m ρ) (kcell (c, i)) 0)
      ⊢ (|={Set.univ}=> bigSep Finset.univ fun i => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- A family over devices and distances, each member moved to the device it is about. -/
theorem deal (Φ : Dev nD → Fin 15 → sProp 𝕄) :
    (bigSep Finset.univ fun c => bigSep Finset.univ fun r => Φ c r) = bigSep Finset.univ fun c => bigSep Finset.univ fun r => Φ (fwd c r) r := by
  rw [bigSep_univ_comm, bigSep_univ_comm (fun c r => Φ (fwd c r) r)]
  exact bigSep_congr fun r _ => bigSep_univ_equiv (turn r) (fun c => Φ c r)

theorem toks_dealt : (bigSep Finset.univ fun c : Dev nD => (toks c : sProp 𝕄)) ⊢ bigSep Finset.univ fun c : Dev nD => pays c := by
  unfold toks pays
  rw [bigSep_sep', bigSep_sep', bigSep_sep', bigSep_sep', bigSep_sep', bigSep_sep', bigSep_sep', bigSep_sep',
    bigSep_congr (s := Finset.univ) (fun (c : Dev nD) _ => bigSep_rev (fun r => (dutyTok ER (barCell c) 0 r : sProp 𝕄))),
    deal (fun c r => dutyTok ER (barCell c) 0 r.rev), deal (fun c r => dutyTok ER (dCell c 1 (up r)) 0 0),
    deal (fun c r => dutyTok ER (dCell c 3 (up r)) 0 0)]

theorem regroup :
    (bigSep Finset.univ fun c : Dev nD => iprop((bigSep Finset.univ fun i => iprop(∃ κ : ℕ, cellInv ER (Rd m ρ) κ (kcell (c, i))))
          ∗ (bigSep Finset.univ fun i => iprop(atPos ER (kcell (c, i)) 0 ∅ 0 ∗ reached ER (kcell (c, i)) 0)) ∗ toks c) : sProp 𝕄)
      ⊢ bigSep Finset.univ (G' m ρ) := by
  rw [bigSep_sep', bigSep_sep', ← bigSep_univ_prod (fun ck : Dev nD × CI => iprop(∃ κ : ℕ, cellInv ER (Rd m ρ) κ (kcell ck))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m ρ) κ (kcell ck) : sProp 𝕄))) $$ HI
  icases HK with ⟨%K, #HI⟩
  ihave Htk := (toks_dealt (F := F)) $$ Htok
  have hg : ∀ c ∈ (Finset.univ : Finset (Dev nD)), iprop(cellsRec m ρ K ∗ (bigSep Finset.univ fun i : CI => atPos ER (kcell (c, i)) 0 ∅ 0) ∗ pays c) ⊢ G' m ρ c := fun c _ => by
    unfold G' ghost; iintro H; iexists K; iexact H
  iapply (bigSep_with_persistent hg)
  isplitr
  · unfold cellsRec; isplitl; · iexact HI
    iexact HR
  · iapply (Entails.of_eq (bigSep_sep' Finset.univ (fun c : Dev nD => bigSep Finset.univ fun i : CI => (atPos ER (kcell (c, i)) 0 ∅ 0 : sProp 𝕄)) pays).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credits -/

theorem osum_eq (t : Fin 15 → CellTallies nD τ sig Unit) (O : CellTallies nD τ sig Unit) (g : GSem nD τ sig) (u : Unit) :
    osum t O rs15 g u = O g u + ∑ r, t r g u := by
  have h : ∀ rs : List (Fin 15), osum t O rs g u = O g u + (rs.map fun r => t r g u).sum := fun rs => by
    induction rs with
    | nil => rfl
    | cons r rs ih =>
      show (osum t O rs + t r) g u = _
      rw [Pi.add_apply, Finsupp.add_apply, ih, List.map_cons, List.sum_cons]; omega
  rw [h, ← List.sum_toFinset _ (by decide : rs15.Nodup)]
  exact congrArg _ (congrArg (fun S => Finset.sum S _) (by decide : rs15.toFinset = Finset.univ))

theorem tally_at (p q : Dev nD × CI) (n : ℕ) : (tallyAt (kcell p) () n : CellTallies nD τ sig Unit) (kcell q) () = if q = p then n else 0 := by
  rw [tallyAt_apply]
  exact if_congr ⟨fun h => kcell_injective h.1, fun h => ⟨congrArg kcell h, rfl⟩⟩ rfl rfl

/-- What device `d` owes a cell: one term for each distance and each of the three payments there. -/
theorem owed_at (d : Dev nD) (q : Dev nD × CI) : O₀ d (kcell q) ()
    = ∑ r, ((if q = (fwd d r, none) then 1 else 0) + (if q = (fwd d r, some (1, up r)) then N else 0) + (if q = (fwd d r, some (3, up r)) then N else 0)) := by
  unfold O₀ O1 O3
  rw [osum_eq, osum_eq, osum_eq, Finset.sum_add_distrib, Finset.sum_add_distrib]
  have hB : ∀ r, tB d r (kcell q) () = if q = (fwd d r, none) then 1 else 0 := fun r => tally_at (fwd d r, none) q 1
  have h1 : ∀ r, t1 d r (kcell q) () = if q = (fwd d r, some (1, up r)) then N else 0 := fun r => tally_at (fwd d r, some (1, up r)) q N
  have h3 : ∀ r, t3 d r (kcell q) () = if q = (fwd d r, some (3, up r)) then N else 0 := fun r => tally_at (fwd d r, some (3, up r)) q N
  rw [Finset.sum_congr rfl fun r _ => hB r, Finset.sum_congr rfl fun r _ => h1 r, Finset.sum_congr rfl fun r _ => h3 r]
  show 0 + _ + _ + _ = _
  omega

/-- What all devices together owe a cell. -/
theorem owed_all (c : Dev nD) (i : CI) : ∑ d, O₀ d (kcell (c, i)) ()
    = ∑ r, ((if i = none then 1 else 0) + (if i = some (1, up r) then N else 0) + (if i = some (3, up r) then N else 0)) := by
  rw [Finset.sum_congr rfl fun d _ => owed_at d (c, i), Finset.sum_comm]
  refine Finset.sum_congr rfl fun r _ => ?_
  have h := Equiv.sum_comp (turn r) fun e : Dev nD =>
    (if (c, i) = (e, none) then 1 else 0) + (if (c, i) = (e, some (1, up r)) then N else 0) + (if (c, i) = (e, some (3, up r)) then N else 0)
  refine h.trans ?_
  rw [Finset.sum_eq_single c (fun e _ he => ?_) fun h => absurd (Finset.mem_univ c) h]
  · simp only [Prod.mk.injEq, true_and]
  · simp only [Prod.mk.injEq, Ne.symm he, false_and, if_false, Nat.add_zero]

theorem up_inj {r r' : Fin 15} : up r = up r' ↔ r = r' := ⟨fun h => by rw [← down_up r, h, down_up], fun h => by rw [h]⟩

theorem owed_bar (c : Dev nD) : ∑ d, O₀ d (barCell c) () = 15 :=
  (owed_all c none).trans (by decide)
theorem owed_1 (c : Dev nD) (r : Fin 15) : ∑ d, O₀ d (dCell c 1 (up r)) () = N := by
  refine (owed_all c (some (1, up r))).trans ?_
  rw [Finset.sum_eq_single r (fun r' _ h => ?_) fun h => absurd (Finset.mem_univ r) h]
  · rw [if_neg (by simp), if_pos rfl, if_neg (by simp), Nat.zero_add, Nat.add_zero]
  · rw [if_neg (by simp), if_neg (fun e => h (up_inj.mp (Prod.mk.inj (Option.some.inj e)).2.symm)), if_neg (by simp), Nat.add_zero]
theorem owed_3 (c : Dev nD) (r : Fin 15) : ∑ d, O₀ d (dCell c 3 (up r)) () = N := by
  refine (owed_all c (some (3, up r))).trans ?_
  rw [Finset.sum_eq_single r (fun r' _ h => ?_) fun h => absurd (Finset.mem_univ r) h]
  · rw [if_neg (by simp), if_neg (by simp), if_pos rfl, Nat.zero_add]
  · rw [if_neg (by simp), if_neg (by simp), if_neg (fun e => h (up_inj.mp (Prod.mk.inj (Option.some.inj e)).2.symm)), Nat.add_zero]

theorem launch_at (g : GSem nD τ sig) (n : ℕ) (h : ∑ d, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem creds (c : Dev nD) : (Pipeline.launchCred O₀ c : sProp 𝕄) ⊢ credits (F := F) c := by
  unfold Pipeline.launchCred
  refine (bigSep_subset (Finset.subset_univ (Finset.univ.map ⟨csem, csem_injective⟩))).trans ?_
  rw [bigSep_map, bigSep_CI]
  unfold credits
  rw [← launch_at (barCell c) 15 (owed_bar c), bigSep_congr (s := Finset.univ) fun r _ => congrArg (fun t => (cred t : sProp 𝕄)) (launch_at (dCell c 1 (up r)) N (owed_1 c r)).symm,
    bigSep_congr (s := Finset.univ) fun r _ => congrArg (fun t => (cred t : sProp 𝕄)) (launch_at (dCell c 3 (up r)) N (owed_3 c r)).symm]
  show (iprop(_ ∗ _) : sProp 𝕄) ⊢ _
  iintro ⟨Hb, -, ⟨-, H1⟩, -, ⟨-, H3⟩⟩
  isplitl [Hb]; · iexact Hb
  isplitl [H1]; · iexact H1
  iexact H3

/-! ### The theorem's side conditions -/

theorem lvls_intro : (levAts L lv : sProp 𝕄) ⊢ lvls := by unfold lvls; exact BI.Entails.refl _

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  ihave Hl := (lvls_intro (F := F)) $$ Hlev
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratches
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ scratches
  iintro ⟨Hr, Hz⟩
  ihave Hz := (Entails.of_eq (sems0_eq (F := F) c)) $$ Hz
  icases Hz with ⟨Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution of the program on the sixteen devices ends, and every final state has
    each device's arrays at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KProof
-- ==== Proof.Value.lean ====
/-
# 01_k — `Value`: what the result is

What the run leaves in each device's arrays, read off; and, in exact arithmetic, that the result is the reference's: row
`16 d + x` of the result is the sum, over the sixteen devices, of row `16 d + x` of what each device holds — the rows of
`d` itself and those the fifteen devices behind it sent it.
-/
module

public import proofs.«01_k».proof.Proof.Launch
public import proofs.«01_k».proof.Proof.Gen.ReferenceIdeal.Run
public import Idealize.ShloMosaic.Lib.IdealHost
public import Idealize.ShloMosaic.Lib.Layout
public import Idealize.ShloMosaic.PureOps.Ideal.Laws

@[expose] public section

noncomputable section

namespace Cert.KProof

open Cert.KernelIdeal Cert.KernelIdeal.Gen

open Idealize.ShloMosaic Idealize.ShloMosaic.ValueIdx
open Idealize.ShloMosaic.TcCoe

/-! ## The arrays at the end -/

section Arrays

variable {F : FTy → Type} [FloatOps F]
variable (m : (ℓ : Loc nD τ sig) → Buf (Elt F) ℓ) (ρ : Dev nD → PrngReg)

/-- The argument array is what it was. -/
theorem finalA_x (c : Dev nD) : finalA m ρ c (0 : Fin 2) = m ((c : Thread nD τ).loc main_arg0) :=
  (dats (F := F) m ρ 0 c).arrAt_in (0 : Fin 2) rfl _

/-- The staged argument is the argument. -/
theorem xstg_eq (c : Dev nD) : xstg m ρ c = m ((c : Thread nD τ).loc main_arg0) :=
  Memref.read_access_unit_zero (Elt F) main_arg0 (funext fun a => by fin_cases a <;> decide) (fun a => by fin_cases a <;> decide) _

/-- The result array is what the body leaves in its staging buffer. -/
theorem finalA_o (c : Dev nD) : finalA m ρ c (1 : Fin 2) = OUT m ρ := by
  have ho : (win0_1.blk (0 : Fin 1)).view.read (Elt F) (finalA m ρ c (1 : Fin 2)) = OUT m ρ := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from flush0_1 (0 : Fin 1), if_pos rfl]
    exact View.read_write_univ _ _
  exact (Memref.read_access_unit_zero (Elt F) main_v1 (funext fun a => by fin_cases a <;> decide) (fun a => by fin_cases a <;> decide) _).symm.trans ho

end Arrays

/-! ## The sum in exact arithmetic -/

section Sum

variable (m : (ℓ : Loc nD τ sig) → Buf (Elt Ideal) ℓ) (ρ : Dev nD → PrngReg)

/-- What device `c` holds of the argument. -/
abbrev arg (c : Dev nD) : S256x256.Idx → EReal := m ((c : Thread nD τ).loc main_arg0)

theorem LO_eq (c : Dev nD) : LO m ρ c = arg m c := by
  unfold LO k0_pay1
  funext i
  show shapeCast _ (shapeCast _ (xstg m ρ c) _) _ i = _
  rw [shapeCast_apply _ _ i i rfl, shapeCast_apply _ _ i i rfl, xstg_eq]

/-- A device's own rows, as the sum reads them; -/
theorem own_apply (c : Dev nD) (x : Fin 16) (y : Fin 256) :
    k0_pay2 ((xM : Memref sig .tc .vmem S256x256 .bf16).view.readAt (Elt Ideal) (rX c).toLoadRect (xstg m ρ c)) (ix2 x y)
      = arg m c (ix2 (rowOf c x) y) := by
  unfold k0_pay2
  rw [xstg_eq, shapeCast_apply _ _ (ix2 x y) (ix2 x y) rfl]
  exact congrArg (arg m c) (unit_emb c (k0_off2_eq c) x y)

/-- and those landed in slot `1 + r`. -/
theorem landed_apply (c : Dev nD) (r : Fin 15) (x : Fin 16) (y : Fin 256) :
    (rM : Memref sig .tc .vmem S16x16x256 .bf16).view.readAt (Elt Ideal) rR.toLoadRect (RS m ρ c) (ix3 r x y)
      = arg m (bwd c r) (ix2 (rowOf c x) y) := by
  have e : rR.emb (ix3 r x y) = ix3 (up r) x y := by
    funext a
    match a with
    | ⟨0, _⟩ => exact Fin.ext (by rw [Rect.emb_apply]; show 1 + 1 * r.val = 1 + r.val; omega)
    | ⟨1, _⟩ => exact Fin.ext (by rw [Rect.emb_apply]; show 0 + 1 * x.val = x.val; omega)
    | ⟨2, _⟩ => exact Fin.ext (by rw [Rect.emb_apply]; show 0 + 1 * y.val = y.val; omega)
  refine (congrArg (RS m ρ c) e).trans ?_
  show LO m ρ (src c (up r)) (ix2 (rowOf c x) y) = _
  rw [src_up, LO_eq]

/-- A row of the block device `c` sums is the sum of that row over all devices. -/
theorem CH_apply (c : Dev nD) (x : Fin 16) (y : Fin 256) :
    CH m ρ c (ix2 x y) = ∑ d : Dev nD, arg m d (ix2 (rowOf c x) y) := by
  unfold CH k0_pay3
  rw [shapeCast_apply _ _ (ix2 x y) (ix2 x y) rfl]
  refine (congrArg₂ (fun a b : EReal => a + b) (own_apply m ρ c x y) (Ideal.multiReduction_add_single _ _ _ _ _ _)).trans ?_
  rw [← Equiv.sum_comp (behind c), Fintype.sum_option]
  refine congrArg₂ (fun a b : EReal => a + b) rfl (Finset.sum_congr rfl fun r _ => ?_)
  refine Eq.trans ?_ (landed_apply m ρ c r x y)
  refine congrArg (fun i => (rM : Memref sig .tc .vmem S16x16x256 .bf16).view.readAt (Elt Ideal) rR.toLoadRect (RS m ρ c) i) ?_
  funext a
  match a with
  | ⟨0, _⟩ => rfl
  | ⟨1, _⟩ => rfl
  | ⟨2, _⟩ => rfl

/-- So an element of the result is the sum of that element over all devices. -/
theorem OUT_apply (i : Fin 256) (y : Fin 256) : OUT m ρ (ix2 i y) = ∑ d : Dev nD, arg m d (ix2 i y) := by
  have hi := i.isLt
  have e : i = rowOf ⟨i.val / 16, by show _ < 16; omega⟩ ⟨i.val % 16, Nat.mod_lt _ (by decide)⟩ :=
    Fin.ext (by show i.val = 16 * (i.val / 16) + i.val % 16; omega)
  rw [e, OUT_row, CH_apply]

end Sum

/-! ## The reference -/

/-- The reference's result from its argument. -/
abbrev refOut (X : (⟨2, ![4096, 256]⟩ : Shape).Idx → EReal) : S256x256.Idx → EReal :=
  truncf (F := Ideal) .bf16 (Host.reduceAdd (F := Ideal) (extf (F := Ideal) .f32 (shapeCast _ X Cert.ReferenceIdeal.Gen.shapeCasts_S4096x256_S16x256x256) Cert.ReferenceIdeal.Gen.bitsLt_bf16_f32)
    (constant Cert.ReferenceIdeal.S_ .f32 0x00000000#32) Cert.ReferenceIdeal.Gen.reducesTo_S16x256x256_S256x256_d0 Cert.ReferenceIdeal.Gen.h_S_) Cert.ReferenceIdeal.Gen.bitsLt_bf16_f32

/-- An element of it is the sum of that element over the sixteen blocks of rows of the argument. -/
theorem refOut_apply (X : (⟨2, ![4096, 256]⟩ : Shape).Idx → EReal) (i : Fin 256) (y : Fin 256) :
    refOut X (ix2 i y) = ∑ d : Fin 16, Layout.block ⟨2, ![256, 256]⟩ ⟨2, ![4096, 256]⟩ 0 16 d X (by decide) (ix2 i y) := by
  have hr : Shape.Reduces ⟨3, ![16, 256, 256]⟩ [0] ⟨2, ![256, 256]⟩ := by decide
  refine (hostReduceAdd_apply _ _ _ _ (ix2 i y)).trans ?_
  refine (Ideal.hostReduceAdd_single (s := ⟨3, ![16, 256, 256]⟩) (t := ⟨2, ![256, 256]⟩) (a := (0 : Fin 3)) Cert.ReferenceIdeal.Gen.reducesTo_S16x256x256_S256x256_d0 hr _ _ (ix2 i y)).trans ?_
  refine (congrArg₂ (fun a b : EReal => a + b) Ideal.ofBits_zero_f32 rfl).trans ((zero_add _).trans (Finset.sum_congr rfl fun d _ => ?_))
  refine shapeCast_apply X _ _ _ ?_
  rw [Shape.rowMajor_val_two, Shape.rowMajor_val_three]
  rfl

/-- From arguments that are the blocks of the whole one, the kernel's result is the reference's. -/
theorem OUT_eq (m : (ℓ : Loc nD τ sig) → Buf (Elt Ideal) ℓ) (ρ : Dev nD → PrngReg) (X : (⟨2, ![4096, 256]⟩ : Shape).Idx → EReal)
    (h : ∀ c : Dev nD, m ((c : Thread nD τ).loc main_arg0) = Layout.block ⟨2, ![256, 256]⟩ ⟨2, ![4096, 256]⟩ 0 16 c X) :
    OUT m ρ = refOut X := by
  funext z
  obtain ⟨i, y, rfl⟩ : ∃ (i : Fin 256) (y : Fin 256), z = ix2 i y := ⟨z 0, z 1, eq_ix2 z⟩
  rw [refOut_apply]
  refine Eq.trans (b := (∑ d : Dev nD, arg m d (ix2 i y) : EReal)) (OUT_apply m ρ i y) (Finset.sum_congr rfl fun d _ => ?_)
  exact congrFun (h d) (ix2 i y)

end Cert.KProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

local instance : Cert.Kernel.Facts := Cert.Kernel.Gen.facts
local instance : Cert.KernelIdeal.Facts := Cert.KernelIdeal.Gen.facts

/-- The two printed programs of the kernel are one text: their body tables agree, label by label. -/
theorem bodies_eq {F : FTy → Type} [FloatOps F] : Cert.Kernel.defs₀ (F := F) = Cert.KernelIdeal.defs₀ (F := F) := by
  funext p l x
  match p, l, x with
  | .tc, 0, (t, s) => rfl
  | .scScalar _, 0, (t, s) => rfl
  | .scVector _ _, 0, (t, s) => rfl

theorem tables_eq {F : FTy → Type} [FloatOps F] : Cert.Kernel.defs (F := F) = Cert.KernelIdeal.defs (F := F) :=
  congrArg (Pipeline.defs (Cert.KernelIdeal.pcfgs (F := F))) bodies_eq

/-- The kernel's frame at bit-exact values, from the run of `KernelIdeal`, which holds at any float values. -/
theorem frame_kernel : quiescent_Kernel (hKernel := Cert.Kernel.Gen.facts) := fun m ρ _ =>
  (congrArg (fun D => θ_run D (onTc (τ := τ) (main (F := Bits))) ⟨m, fun _ => 0, ρ⟩ _) tables_eq).mpr
    ((θ_run Cert.KernelIdeal.defs _ _).mono
      (fun r (h : Cert.KProof.QC (F := Bits) m ρ r ∧ r.2.sem = fun _ => 0) =>
        ⟨fun c => (h.1 c (0 : Fin 2)).trans (Cert.KProof.finalA_x (F := Bits) m ρ c), h.2⟩) (Cert.KProof.run_main (F := Bits) m ρ))

/-- The kernel's frame in exact arithmetic. -/
theorem frame_kernel_ideal : quiescent_KernelIdeal (hKernelIdeal := Cert.KernelIdeal.Gen.facts) := fun m ρ _ =>
  (θ_run Cert.KernelIdeal.defs _ _).mono
    (fun _ h => ⟨fun c => (h.1 c (0 : Fin 2)).trans (Cert.KProof.finalA_x m ρ c), h.2⟩) (Cert.KProof.run_main (F := Ideal) m ρ)

/-- The reference's frame; it has no semaphore. -/
theorem frame_reference : quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's. -/
theorem algebraic : algebraic_KernelIdeal_ReferenceIdeal (hKernelIdeal := Cert.KernelIdeal.Gen.facts)
    (hReferenceIdeal := Cert.ReferenceIdeal.Gen.facts) := fun m ρ m' ρ' _ hagree =>
  ⟨Cert.KProof.OUT m ρ,
    (θ_run Cert.KernelIdeal.defs _ _).mono
      (fun _ h c => ⟨(h.1 c (1 : Fin 2)).trans (Cert.KProof.finalA_o m ρ c), (h.1 c (0 : Fin 2)).trans (Cert.KProof.finalA_x m ρ c)⟩)
      (Cert.KProof.run_main (F := Ideal) m ρ),
    (θ_run Cert.ReferenceIdeal.defs _ _).mono (fun _ h => ⟨(h 0).1.trans (Cert.KProof.OUT_eq m ρ _ hagree).symm, (h 0).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernel_ideal, frame_reference, trivial, algebraic⟩

end Cert.Proof

end
